-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x2x2x128x256 : Shape := ⟨5, ![4, 2, 2, 128, 256]⟩
abbrev S3 : Shape := ⟨1, ![3]⟩
abbrev S_ : Shape := ⟨0, ![]⟩
abbrev S2x128x256 : Shape := ⟨3, ![2, 128, 256]⟩
abbrev S1x1x2x128x256 : Shape := ⟨5, ![1, 1, 2, 128, 256]⟩
abbrev S1 : Shape := ⟨1, ![1]⟩
abbrev S1x2x2x128x256 : Shape := ⟨5, ![1, 2, 2, 128, 256]⟩
abbrev S2x2x128x256 : Shape := ⟨4, ![2, 2, 128, 256]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x1x1x128x256 : Shape := ⟨5, ![1, 1, 1, 128, 256]⟩
abbrev S128x64 : Shape := ⟨2, ![128, 64]⟩
abbrev S512x64 : Shape := ⟨2, ![512, 64]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S4x2x2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v57 : BitVec 32 := Scalar.addi v2 c1_i32_44
  let c4_i32_45 : BitVec 32 := 4#32
  let c0_i32_46 : BitVec 32 := 0#32
  let v58 : BitVec 1 := Scalar.cmpi .eq c4_i32_45 c0_i32_46
  let c1_i32_47 : BitVec 32 := 1#32
  let v59 : BitVec 32 := Scalar.select v58 c1_i32_47 c4_i32_45
  let v60 : BitVec 32 := Scalar.remsi v57 v59
  let c0_i32_49 : BitVec 32 := 0#32
  let v62 : BitVec 1 := Scalar.cmpi .slt v60 c0_i32_49
  let c0_i32_50 : BitVec 32 := 0#32
  let v63 : BitVec 1 := Scalar.cmpi .slt v59 c0_i32_50
  let v64 : BitVec 1 := Scalar.xori v62 v63
  let c0_i32_48 : BitVec 32 := 0#32
  let v61 : BitVec 1 := Scalar.cmpi .ne v60 c0_i32_48
  let v65 : BitVec 1 := Scalar.andi v64 v61
  let v66 : BitVec 32 := Scalar.addi v60 v59
  let v67 : BitVec 32 := Scalar.select v65 v66 v60
  let c1_i32_55 : BitVec 32 := 1#32
  let v68 : BitVec 32 := Scalar.muli v67 c1_i32_55
  let v69 : BitVec 32 := Scalar.addi c0_i32_56 v68
  v69.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v78 : BitVec 32 := Scalar.addi v2 c2_i32_65
  let c4_i32_66 : BitVec 32 := 4#32
  let c0_i32_67 : BitVec 32 := 0#32
  let v79 : BitVec 1 := Scalar.cmpi .eq c4_i32_66 c0_i32_67
  let c1_i32_68 : BitVec 32 := 1#32
  let v80 : BitVec 32 := Scalar.select v79 c1_i32_68 c4_i32_66
  let v81 : BitVec 32 := Scalar.remsi v78 v80
  let c0_i32_70 : BitVec 32 := 0#32
  let v83 : BitVec 1 := Scalar.cmpi .slt v81 c0_i32_70
  let c0_i32_71 : BitVec 32 := 0#32
  let v84 : BitVec 1 := Scalar.cmpi .slt v80 c0_i32_71
  let v85 : BitVec 1 := Scalar.xori v83 v84
  let c0_i32_69 : BitVec 32 := 0#32
  let v82 : BitVec 1 := Scalar.cmpi .ne v81 c0_i32_69
  let v86 : BitVec 1 := Scalar.andi v85 v82
  let v87 : BitVec 32 := Scalar.addi v81 v80
  let v88 : BitVec 32 := Scalar.select v86 v87 v81
  let c1_i32_76 : BitVec 32 := 1#32
  let v89 : BitVec 32 := Scalar.muli v88 c1_i32_76
  let v90 : BitVec 32 := Scalar.addi c0_i32_77 v89
  v90.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_86 : BitVec 32 := 3#32
  let v99 : BitVec 32 := Scalar.addi v2 c3_i32_86
  let c4_i32_87 : BitVec 32 := 4#32
  let c0_i32_88 : BitVec 32 := 0#32
  let v100 : BitVec 1 := Scalar.cmpi .eq c4_i32_87 c0_i32_88
  let c1_i32_89 : BitVec 32 := 1#32
  let v101 : BitVec 32 := Scalar.select v100 c1_i32_89 c4_i32_87
  let v102 : BitVec 32 := Scalar.remsi v99 v101
  let c0_i32_91 : BitVec 32 := 0#32
  let v104 : BitVec 1 := Scalar.cmpi .slt v102 c0_i32_91
  let c0_i32_92 : BitVec 32 := 0#32
  let v105 : BitVec 1 := Scalar.cmpi .slt v101 c0_i32_92
  let v106 : BitVec 1 := Scalar.xori v104 v105
  let c0_i32_90 : BitVec 32 := 0#32
  let v103 : BitVec 1 := Scalar.cmpi .ne v102 c0_i32_90
  let v107 : BitVec 1 := Scalar.andi v106 v103
  let v108 : BitVec 32 := Scalar.addi v102 v101
  let v109 : BitVec 32 := Scalar.select v107 v108 v102
  let c1_i32_97 : BitVec 32 := 1#32
  let v110 : BitVec 32 := Scalar.muli v109 c1_i32_97
  let v111 : BitVec 32 := Scalar.addi c0_i32_98 v110
  v111.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S2x512x256 : Shape := ⟨3, ![2, 512, 256]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x4x512x512 : Shape := ⟨4, ![2, 4, 512, 512]⟩
abbrev S1x1x512x512 : Shape := ⟨4, ![1, 1, 512, 512]⟩
abbrev S2x4x512 : Shape := ⟨3, ![2, 4, 512]⟩
abbrev S2x4x512x1 : Shape := ⟨4, ![2, 4, 512, 1]⟩
abbrev S1x1x512x1 : Shape := ⟨4, ![1, 1, 512, 1]⟩
abbrev S2x4x64x512 : Shape := ⟨4, ![2, 4, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x256, .f32⟩
  | .hbm, ⟨2, _⟩ => ⟨S2x512x4x64, .f32⟩
  | .hbm, ⟨3, _⟩ => ⟨S2x512x4x64, .f32⟩
  | .hbm, ⟨4, _⟩ => ⟨S256x512, .f32⟩
  | .hbm, ⟨5, _⟩ => ⟨S2x512x256, .f32⟩
  | .hbm, ⟨6, _⟩ => ⟨S2x512x4x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S2x4x512x512, .f32⟩
  | .hbm, ⟨85, _⟩ => ⟨S_, .f32⟩
  | .hbm, ⟨86, _⟩ => ⟨S2x4x512x512, .f32⟩
  | .hbm, ⟨87, _⟩ => ⟨S2x4x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S2x4x512x512, .i1⟩
  | .hbm, ⟨92, _⟩ => ⟨S2x4x512x512, .f32⟩
  | .hbm, ⟨93, _⟩ => ⟨S2x4x512x512, .f32⟩
  | .hbm, ⟨94, _⟩ => ⟨S_, .f32⟩
  | .hbm, ⟨95, _⟩ => ⟨S2x4x512, .f32⟩
  | .hbm, ⟨96, _⟩ => ⟨S2x4x512x1, .f32⟩
  | .hbm, ⟨97, _⟩ => ⟨S2x4x512x512, .f32⟩
  | .hbm, ⟨98, _⟩ => ⟨S2x4x512x512, .f32⟩
  | .hbm, ⟨99, _⟩ => ⟨S2x4x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x4x512, .f32⟩
  | .hbm, ⟨105, _⟩ => ⟨S2x4x512x1, .f32⟩
  | .hbm, ⟨106, _⟩ => ⟨S_, .f32⟩
  | .hbm, ⟨107, _⟩ => ⟨S_, .f32⟩
  | .hbm, ⟨108, _⟩ => ⟨S2x4x512x1, .i1⟩
  | .hbm, ⟨109, _⟩ => ⟨S2x4x512x1, .f32⟩
  | .hbm, ⟨110, _⟩ => ⟨S2x4x512x1, .f32⟩
  | .hbm, ⟨111, _⟩ => ⟨S2x4x512x512, .f32⟩
  | .hbm, ⟨112, _⟩ => ⟨S2x4x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x4x512x512, .i1⟩
  | .hbm, ⟨117, _⟩ => ⟨S2x4x512x512, .f32⟩
  | .hbm, ⟨118, _⟩ => ⟨S2x4x512x512, .f32⟩
  | .hbm, ⟨119, _⟩ => ⟨S2x4x64x512, .f32⟩
  | .hbm, ⟨120, _⟩ => ⟨S2x512x4x64, .f32⟩
  | .hbm, ⟨121, _⟩ => ⟨S2x512x256, .f32⟩
  | .hbm, ⟨122, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Protocol.lean ====
/-
The all-to-all of the key and value blocks among the four devices: who signals whom, who sends what where, and what
each semaphore's arrivals hand to the device that waits for them.

Every device keeps four slots, each holding one device's keys and values. It fills slot 0 with its own and sends that
slot, at the distances one, two and three around the mesh, into slots one, two and three of the three other devices.
Beforehand each device signals the barrier semaphore of the three others and waits for their three signals: a signal
tells that the signalling device's slot for the receiver is free.

Steps are numbered by `k : Fin 3`; step `k` is the one at distance `k + 1`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Pointwise.Index

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by the steps -/

/-- The exchange's rounds. -/
abbrev UX : Type := URounds (GSem nD τ sig) (Fin 3)
/-- Both together. -/
abbrev UU : Type := UR sig nD τ × UX

local notation "𝕄" => MT nD τ sig Unit (Elt F) ℕ UU ℕ

/-- Where the pipeline's part lies. -/
abbrev EP : Emb (UR sig nD τ) (MT nD τ sig Unit (Elt F) ℕ UU ℕ) := embL
/-- Where the exchange's part lies. -/
abbrev EX : Emb UX (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Around the mesh -/

/-- The device that step `k` of device `c` addresses. -/
def up (k : Fin 3) (c : Dev nD) : Dev nD := ⟨(c.val + (k.val + 1)) % 4, Nat.mod_lt _ (by decide)⟩

/-- The device whose keys and values end in slot `r` of device `c`. -/
def org (c : Dev nD) (r : Fin 4) : Dev nD := ⟨(c.val + (4 - r.val)) % 4, Nat.mod_lt _ (by decide)⟩

/-- Step `k` and the step at the complementary distance undo each other. -/
theorem up_rev_up (k : Fin 3) (c : Dev nD) : up k.rev (up k c) = c := by revert k c; decide
theorem up_up_rev (k : Fin 3) (c : Dev nD) : up k (up k.rev c) = c := by revert k c; decide
/-- Slot 0 holds the device's own keys and values. -/
theorem org_zero (c : Dev nD) : org c 0 = c := by revert c; decide
/-- What step `k` of `c` fills at the addressed device is the slot for `c`. -/
theorem org_up (k : Fin 3) (c : Dev nD) : org (up k c) k.succ = c := by revert k c; decide

/-- Step `k` as a bijection of the devices. -/
def turn (k : Fin 3) : Dev nD ≃ Dev nD := ⟨up k, up k.rev, up_rev_up k, up_up_rev k⟩

/-- The kernel's device numbers: three signals and three sends, each at the distances one, two, three. -/
theorem dev1_eq (c : Dev nD) : (⟨k0_dev1 c, k0_dev1_lt c⟩ : Dev nD) = up 0 c := by revert c; decide
theorem dev2_eq (c : Dev nD) : (⟨k0_dev2 c, k0_dev2_lt c⟩ : Dev nD) = up 1 c := by revert c; decide
theorem dev3_eq (c : Dev nD) : (⟨k0_dev3 c, k0_dev3_lt c⟩ : Dev nD) = up 2 c := by revert c; decide
theorem dev4_eq (c : Dev nD) : (⟨k0_dev4 c, k0_dev4_lt c⟩ : Dev nD) = up 0 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide

/-! ## The semaphores -/

/-- The barrier semaphore; the three send semaphores; the three receive semaphores. -/
abbrev barS : Sem sig := (SemArray.scalar (sig.barrier 0 rfl) : Sems sig S_).sem
abbrev sndS (k : Fin 3) : DmaSem sig := ⟨6 + k.val, Nat.lt_of_lt_of_le (Nat.add_lt_add_left k.isLt 6) (by decide)⟩
abbrev rcvS (k : Fin 3) : DmaSem sig := ⟨9 + k.val, Nat.lt_of_lt_of_le (Nat.add_lt_add_left k.isLt 9) (by decide)⟩

/-- The same semaphores on a device. -/
abbrev barCell (c : Dev nD) : GSem nD τ sig := ((c : Thread nD τ), .reg barS)
abbrev sndCell (k : Fin 3) (c : Dev nD) : GSem nD τ sig := ((c : Thread nD τ), .dma (sndS k))
abbrev rcvCell (k : Fin 3) (c : Dev nD) : GSem nD τ sig := ((c : Thread nD τ), .dma (rcvS k))

/-- What a semaphore is for. -/
inductive Role | other | bar | snd (k : Fin 3) | rcv (k : Fin 3)

/-- The role of each semaphore. -/
def role : SemLoc sig → Role
  | .reg _ => .bar
  | .dma q => if q.val < 6 then .other else if h : q.val - 6 < 3 then .snd ⟨q.val - 6, h⟩
      else if h : q.val - 9 < 3 then .rcv ⟨q.val - 9, h⟩ else .other

/-- The semaphores' roles. -/
theorem role_bar : role (.reg barS) = .bar := rfl
theorem role_snd (k : Fin 3) : role (.dma (sndS k)) = .snd k := by fin_cases k <;> rfl
theorem role_rcv (k : Fin 3) : role (.dma (rcvS k)) = .rcv k := by fin_cases k <;> rfl

/-! ## The slots -/

/-- The scratch buffer of the four slots, and slot `r` of it as the kernel names it. -/
abbrev kvM : Memref sig .tc .vmem S4x2x2x128x256 .bf16 := Memref.whole cc0_scratch0

/-- A slot lies within the scratch buffer. -/
theorem slot_inb (r : Fin 4) : ∀ a, (![r.val, 0, 0, 0, 0] : Fin 5 → Nat) a + S1x2x2x128x256.size a ≤ S4x2x2x128x256.size a := by
  revert r; decide

/-- Slot `r` as a rectangle of the scratch buffer. -/
abbrev slotRect (r : Fin 4) : Rect S4x2x2x128x256 := Rect.unit (s := S4x2x2x128x256) ![r.val, 0, 0, 0, 0] S1x2x2x128x256.size (slot_inb r)

/-- Slot `r` without its leading axis. -/
abbrev slotM (r : Fin 4) : Memref sig .tc .vmem S2x2x128x256 .bf16 :=
  (kvM.slice (slotRect r) (fun _ => rfl)).squeeze S2x2x128x256 squeezes_S1x2x2x128x256_S2x2x128x256

/-- The elements of slot `r`. -/
def slotSet (r : Fin 4) : Finset S4x2x2x128x256.Idx := (slotRect r).set

/-- The slot as the kernel names it has these elements. -/
theorem slotM_set (r : Fin 4) : (slotM r).view.set = slotSet r := by
  show ((kvM.slice (slotRect r) (fun _ => rfl)).view.reshape S2x2x128x256 _).set = _
  rw [View.set_reshape]
  exact View.set_slice_whole _ _

/-- An element belongs to the slot that its first coordinate names. -/
theorem mem_slotSet {r : Fin 4} {i : S4x2x2x128x256.Idx} : i ∈ slotSet r ↔ (i 0).val = r.val := by
  unfold slotSet
  rw [Rect.mem_set_unit]
  constructor
  · intro h
    have h0 := h 0
    simp only [Matrix.cons_val_zero] at h0
    have : (S1x2x2x128x256.size 0) = 1 := rfl
    omega
  · intro h a
    have h1 := (i 1).isLt; have h2 := (i 2).isLt; have h3 := (i 3).isLt; have h4 := (i 4).isLt
    fin_cases a
    · exact ⟨by show r.val ≤ (i 0).val; omega, by show (i 0).val < r.val + 1; omega⟩
    · exact ⟨Nat.zero_le _, by show (i 1).val < 0 + 2; simpa using h1⟩
    · exact ⟨Nat.zero_le _, by show (i 2).val < 0 + 2; simpa using h2⟩
    · exact ⟨Nat.zero_le _, by show (i 3).val < 0 + 128; simpa using h3⟩
    · exact ⟨Nat.zero_le _, by show (i 4).val < 0 + 256; simpa using h4⟩

/-- Different slots share no element. -/
theorem slot_disjoint (r r' : Fin 4) (h : r ≠ r') : Disjoint (slotSet r) (slotSet r') := by
  rw [Finset.disjoint_left]
  intro i hi hi'
  rw [mem_slotSet] at hi hi'
  exact h (Fin.ext (hi.symm.trans hi'))

/-- The four slots are all of the scratch buffer. -/
theorem slot_cover : Finset.univ.biUnion slotSet = Finset.univ := by
  ext i
  simp only [Finset.mem_biUnion, Finset.mem_univ, true_and, iff_true]
  exact ⟨i 0, mem_slotSet.mpr rfl⟩

/-- Element `j` of slot `r` is element `(r, j)` of the scratch buffer. -/
theorem slot_emb (r : Fin 4) (j : S2x2x128x256.Idx) :
    ((slotM r).view.emb j : S4x2x2x128x256.Idx) = ix5 r (j 0) (j 1) (j 2) (j 3) := by
  show (slotRect r).emb (Shape.reshapeEquiv _ j) = _
  funext a
  apply Fin.ext
  rw [Rect.emb_apply, Shape.reshapeEquiv_cons_one]
  fin_cases a
  · rfl
  all_goals (simp [ix5, Fin.cons]; rfl)

/-- The credit of a slot's transfer. -/
abbrev N : ℕ := (slotM 0).view.dmaCredit
theorem N_pos : 0 < N := View.dmaCredit_pos _ (by decide)

/-! ## Contents -/

/-- The blocks the pipeline fetches: the queries' input, the query weights, the keys, the values, the output weights. -/
def xstg (c : Dev nD) : (cc0_stg0_0 : Ref sig .tc).ty.Contents (Elt F) :=
  (win0_0.blk (0 : Fin 1)).view.read (Elt F) (m ((c : Thread nD τ).loc main_arg0))
def qstg (c : Dev nD) : (cc0_stg1_0 : Ref sig .tc).ty.Contents (Elt F) :=
  (win0_1.blk (0 : Fin 1)).view.read (Elt F) (m ((c : Thread nD τ).loc main_arg1))
def kstg (c : Dev nD) : (cc0_stg2_0 : Ref sig .tc).ty.Contents (Elt F) :=
  (win0_2.blk (0 : Fin 1)).view.read (Elt F) (m ((c : Thread nD τ).loc main_arg2))
def vstg (c : Dev nD) : (cc0_stg3_0 : Ref sig .tc).ty.Contents (Elt F) :=
  (win0_3.blk (0 : Fin 1)).view.read (Elt F) (m ((c : Thread nD τ).loc main_arg3))
def ostg (c : Dev nD) : (cc0_stg4_0 : Ref sig .tc).ty.Contents (Elt F) :=
  (win0_4.blk (0 : Fin 1)).view.read (Elt F) (m ((c : Thread nD τ).loc main_arg4))

/-- What device `c`'s four slots hold once everything has arrived: in slot `r` the keys (first half) and the values
    (second half) of the device `r` places before `c`. -/
def kvAll (c : Dev nD) : S4x2x2x128x256.Idx → Elt F .bf16 := fun i =>
  if (i 1).val = 0 then k0_pay1 (kstg m (org c (i 0))) (ix5 0 0 (i 2) (i 3) (i 4))
  else k0_pay2 (vstg m (org c (i 0))) (ix5 0 0 (i 2) (i 3) (i 4))

/-- Slot `r` of device `c` held at share `q` with contents `f`. -/
def slotPts (c : Dev nD) (r : Fin 4) (q : PosShare TreeShare) (f : Buf (Elt F) ((c : Thread nD τ).loc cc0_scratch0)) : sProp 𝕄 :=
  ((c : Thread nD τ).loc cc0_scratch0) ↦[slotSet r]{q} f

instance slotPts_storable (c : Dev nD) (r : Fin 4) (q) (f) : BI.Storable (upEmb : UEmb _ 𝕄) (slotPts (F := F) c r q f) := by
  unfold slotPts; infer_instance

/-- What step `k` reads of slot 0 and writes over slot `k + 1` of the addressed device is that slot's final contents. -/
theorem landed_eq (k : Fin 3) (c : Dev nD) (fd : Buf (Elt F) ((up k c : Thread nD τ).loc cc0_scratch0)) :
    (((slotM k.succ).view.loc (up k c : Thread nD τ)) ↦[(slotM k.succ).view.set]{fullShare}
        ((slotM k.succ).view.write (Elt F) fd ((slotM 0).view.read (Elt F) (kvAll m c)) Finset.univ) : sProp 𝕄)
      = slotPts (up k c) k.succ fullShare (kvAll m (up k c)) := by
  unfold slotPts
  rw [slotM_set]
  refine pointsTo_congr fun i hi => ?_
  obtain ⟨j, rfl⟩ : ∃ j, (slotM k.succ).view.emb j = i := by
    rw [← slotM_set] at hi
    obtain ⟨j, -, e⟩ := Finset.mem_map.mp hi
    exact ⟨j, e⟩
  rw [View.write_emb_of_mem _ _ (Finset.mem_univ j), View.read_apply]
  show kvAll m c ((slotM 0).view.emb j) = kvAll m (up k c) ((slotM k.succ).view.emb j)
  rw [slot_emb, slot_emb]
  unfold kvAll
  show (if (j 0).val = 0 then k0_pay1 (kstg m (org c 0)) (ix5 0 0 (j 1) (j 2) (j 3)) else k0_pay2 (vstg m (org c 0)) (ix5 0 0 (j 1) (j 2) (j 3)))
    = if (j 0).val = 0 then k0_pay1 (kstg m (org (up k c) k.succ)) (ix5 0 0 (j 1) (j 2) (j 3))
      else k0_pay2 (vstg m (org (up k c) k.succ)) (ix5 0 0 (j 1) (j 2) (j 3))
  rw [org_zero, org_up]

/-- The shares of slot 0 that the three sends borrow, and the one that stays for the device's own reading. -/
def lend : Fin 3 → PosShare TreeShare
  | 0 => fullShare.left.left
  | 1 => fullShare.left.right
  | 2 => fullShare.right.left
/-- The share that stays. -/
def keep : PosShare TreeShare := fullShare.right.right

/-- Slot 0 is the three lent shares and the kept one. -/
theorem slot0_shares (c : Dev nD) (f) :
    (slotPts (F := F) c 0 fullShare f : sProp 𝕄)
      ⊣⊢ iprop((slotPts c 0 (lend 0) f ∗ slotPts c 0 (lend 1) f) ∗ slotPts c 0 (lend 2) f ∗ slotPts c 0 keep f) := by
  unfold slotPts lend keep
  refine (pointsTo_share (PosShare.mem_left_op_right fullShare)).trans ?_
  exact BI.Laws.sep_congr (pointsTo_share (PosShare.mem_left_op_right _)) (pointsTo_share (PosShare.mem_left_op_right _))

/-! ## The schedule: one round per semaphore -/

/-- What the barrier signal of step `k` hands the signalled device `e`: the slot of the signalling device that `e` will
    write, and that the signalling device's receive semaphore for it is at its first round. -/
def barPay (e : Dev nD) (k : Fin 3) : sProp 𝕄 :=
  iprop((∃ f, slotPts (up k.rev e) k.rev.succ fullShare f) ∗ reached EX (rcvCell k.rev (up k.rev e)) 0)

/-- A barrier has one duty per step, of one unit; a send or a receive semaphore one duty of a slot's credit. A send
    hands the borrowed share of slot 0 back, a receive the slot that arrived. -/
def sched : Rounds.Schedule (GSem nD τ sig) (Fin 3) 𝕄 where
  duties g r := if r = 0 ∧ g.1.2 = .tc then (match role g.2 with | .bar => Finset.univ | .snd _ => {0} | .rcv _ => {0} | .other => ∅) else ∅
  unitless _ := False
  amount g _ _ := match role g.2 with | .bar => 1 | _ => N
  payload g _ d := match role g.2 with
    | .bar => barPay g.1.1 d
    | .snd k => slotPts g.1.1 0 (lend k) (kvAll m g.1.1)
    | .rcv k => slotPts g.1.1 k.succ fullShare (kvAll m g.1.1)
    | .other => iprop(emp)
  amount_pos g _ _ _ := by split; exacts [Nat.one_pos, N_pos]

instance sched_payload_storable (g : GSem nD τ sig) (r : ℕ) (d : Fin 3) :
    BI.Storable (upEmb : UEmb _ 𝕄) ((sched (F := F) m).payload g r d) := by
  dsimp only [sched]
  unfold barPay
  split <;> infer_instance

section Tables
variable (c : Dev nD) (k : Fin 3)

/-- The schedule read at the three kinds of semaphores: the duties of the only round. -/
theorem duties_bar : (sched (F := F) m).duties (barCell c) 0 = Finset.univ := by
  dsimp only [sched]; rw [if_pos ⟨rfl, rfl⟩]; rfl
theorem duties_snd : (sched (F := F) m).duties (sndCell k c) 0 = {0} := by
  dsimp only [sched]; rw [if_pos ⟨rfl, rfl⟩, role_snd]
theorem duties_rcv : (sched (F := F) m).duties (rcvCell k c) 0 = {0} := by
  dsimp only [sched]; rw [if_pos ⟨rfl, rfl⟩, role_rcv]
/-- No later round has a duty. -/
theorem duties_later (g : GSem nD τ sig) : ∀ r, 1 ≤ r → (sched (F := F) m).duties g r = ∅ :=
  fun r hr => by dsimp only [sched]; rw [if_neg fun h => by omega]

/-- The units of a duty. -/
theorem amount_bar (d : Fin 3) : (sched (F := F) m).amount (barCell c) 0 d = 1 := rfl
theorem amount_snd (d : Fin 3) : (sched (F := F) m).amount (sndCell k c) 0 d = N := by dsimp only [sched]; rw [role_snd]
theorem amount_rcv (d : Fin 3) : (sched (F := F) m).amount (rcvCell k c) 0 d = N := by dsimp only [sched]; rw [role_rcv]

/-- The units of the round. -/
theorem expect_bar : (sched (F := F) m).expect (barCell c) 0 = 3 := by
  unfold Schedule.expect Schedule.amountOf
  rw [duties_bar, Finset.sum_congr rfl fun d _ => amount_bar m c d]; rfl
theorem expect_snd : (sched (F := F) m).expect (sndCell k c) 0 = N := by
  unfold Schedule.expect Schedule.amountOf; rw [duties_snd, Finset.sum_singleton, amount_snd]
theorem expect_rcv : (sched (F := F) m).expect (rcvCell k c) 0 = N := by
  unfold Schedule.expect Schedule.amountOf; rw [duties_rcv, Finset.sum_singleton, amount_rcv]

/-- What a duty hands over. -/
theorem payload_bar (d : Fin 3) : (sched (F := F) m).payload (barCell c) 0 d = barPay c d := rfl
theorem payload_snd (d : Fin 3) : (sched (F := F) m).payload (sndCell k c) 0 d = slotPts c 0 (lend k) (kvAll m c) := by
  dsimp only [sched]; rw [role_snd]
theorem payload_rcv (d : Fin 3) : (sched (F := F) m).payload (rcvCell k c) 0 d = slotPts c k.succ fullShare (kvAll m c) := by
  dsimp only [sched]; rw [role_rcv]

/-- A conjunction over three indices, written out. -/
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-- What a whole round of each semaphore hands over. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_three]; rfl
theorem rest_snd : bigSep ((sched (F := F) m).duties (sndCell k c) 0 \ ∅) (fun d => (sched (F := F) m).payload (sndCell k c) 0 d)
    = slotPts c 0 (lend k) (kvAll m c) := by
  rw [Finset.sdiff_empty, duties_snd, bigSep_singleton, payload_snd]
theorem rest_rcv : bigSep ((sched (F := F) m).duties (rcvCell k c) 0 \ ∅) (fun d => (sched (F := F) m).payload (rcvCell k c) 0 d)
    = slotPts c k.succ fullShare (kvAll m c) := by
  rw [Finset.sdiff_empty, duties_rcv, bigSep_singleton, payload_rcv]

end Tables

/-! ## What each device owes at launch, and the order of the waits -/

/-- The credit device `c` owes step `k`'s receive semaphore, and the unit it owes step `k`'s barrier. -/
abbrev owR (k : Fin 3) (c : Dev nD) : CellTallies nD τ sig Unit := tallyAt (rcvCell k (up k c)) () N
abbrev owB (k : Fin 3) (c : Dev nD) : CellTallies nD τ sig Unit := tallyAt (barCell (up k c)) () 1

/-- What is owed after the signals: the three sends, the first to come the last summand; and at launch. -/
def OR (c : Dev nD) : CellTallies nD τ sig Unit := owR 2 c + owR 1 c + owR 0 c
/-- What is owed at launch: the sends and the three barrier units. -/
def O₀ (c : Dev nD) : CellTallies nD τ sig Unit := OR c + owB 2 c + owB 1 c + owB 0 c

/-- Each semaphore of a device has one level. -/
def L (g : GSem nD τ sig) : Finset Unit := if g.1.2 = .tc then {()} else ∅
/-- Barriers at one, receive semaphores at two, the rest at zero. -/
def lv (g : GSem nD τ sig) (_ : Unit) : ℕ := match role g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Only the semaphore itself is owed by a tally at it. -/
theorem tallyAt_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

/-- After the signals only receive semaphores of addressed devices are owed. -/
theorem OR_pos {c : Dev nD} {g : GSem nD τ sig} {u : Unit} (h : 0 < OR c g u) : ∃ k, g = rcvCell k (up k c) := by
  unfold OR at h
  simp only [Pi.add_apply, Finsupp.add_apply] at h
  rcases Nat.eq_zero_or_pos (owR 2 c g u) with h2 | h2
  · rcases Nat.eq_zero_or_pos (owR 1 c g u) with h1 | h1
    · exact ⟨0, tallyAt_pos (by rw [h2, h1, Nat.zero_add] at h; exact h)⟩
    · exact ⟨1, tallyAt_pos h1⟩
  · exact ⟨2, tallyAt_pos h2⟩

/-- At launch their barriers are owed besides. -/
theorem O₀_pos {c : Dev nD} {g : GSem nD τ sig} {u : Unit} (h : 0 < O₀ c g u) :
    (∃ k, g = rcvCell k (up k c)) ∨ ∃ k, g = barCell (up k c) := by
  unfold O₀ at h
  simp only [Pi.add_apply, Finsupp.add_apply] at h
  rcases Nat.eq_zero_or_pos (OR c g u) with hr | hr
  · rcases Nat.eq_zero_or_pos (owB 2 c g u) with h2 | h2
    · rcases Nat.eq_zero_or_pos (owB 1 c g u) with h1 | h1
      · exact .inr ⟨0, tallyAt_pos (by rw [hr, h2, h1, Nat.zero_add] at h; exact h)⟩
      · exact .inr ⟨1, tallyAt_pos h1⟩
    · exact .inr ⟨2, tallyAt_pos h2⟩
  · exact .inl (OR_pos hr)

/-- A staging semaphore may be waited for whatever of the exchange is still owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv, role]; rw [if_pos hq])
      (fun g u hg => by
        rcases O₀_pos hg with ⟨k, rfl⟩ | ⟨k, rfl⟩
        · dsimp only [lv]; rw [role_rcv]; exact Nat.two_pos
        · exact Nat.one_pos)
  · rw [MayWait_zero]; iintro -; iempintro

/-- The barrier may be waited for while the three sends are owed. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact Nat.le_refl 1)
    (fun g u hg => by obtain ⟨k, rfl⟩ := OR_pos hg; dsimp only [lv]; rw [role_rcv]; exact Nat.one_lt_two)

end Cert.Exchange

end
-- ==== Proof.Result.lean ====
/-
What a device computes from its block of the input, its projections and the four slots of keys and values: the masked
scores of each head against each slot, the softmax over all four slots together, the weighted sum of the values, and the
projection of the four heads side by side.
-/
module

public import proofs.«01_k».proof.Proof.Protocol

@[expose] public section

noncomputable section

namespace Cert.Exchange

open Cert.KernelIdeal Cert.KernelIdeal.Gen
open Idealize.ShloMosaic
open Idealize.ShloMosaic.TcCoe

variable {F : FTy → Type} [FloatOps F]

/-! ## The mask -/

/-- A device's place on the mesh axis, as the kernel computes it. -/
def place (c : Dev nD) : BitVec 32 := Scalar.remsi (Scalar.divsi (Dev.word c) 1#32) 4#32

/-- The column numbers of a slot's scores. -/
def colIds : IVec S128x128 32 := iota .tc S128x128 32 [1] iota_S128x128_d1_w32

/-- The number of the first block of 64 keys in slot `r` of the device at place `v`. -/
def firstBlock (v : BitVec 32) (r : Fin 4) : BitVec 32 :=
  let a := Scalar.addi (Scalar.subi v (BitVec.ofNat 32 r.val)) 4#32
  let n := Scalar.select (Scalar.cmpi .eq 4#32 0#32) 1#32 4#32
  let q := Scalar.remsi a n
  let w := Scalar.andi (Scalar.xori (Scalar.cmpi .slt q 0#32) (Scalar.cmpi .slt n 0#32)) (Scalar.cmpi .ne q 0#32)
  Scalar.muli (Scalar.select w (Scalar.addi q n) q) 2#32

/-- Which keys of slot `r` each query of the device at place `v` may look at. -/
def maskOf (v : BitVec 32) (r : Fin 4) : IVec S128x128 1 :=
  k0_pay9 (k0_pay3 v) (k0_pay7 colIds) (broadcast S128x128 (firstBlock v r))

/-! ## One head -/

/-- Each head's columns are a slice of the row. -/
theorem headSlices (h : Fin 4) : S128x256.Slices ![0, 64 * h.val] S128x64 :=
  match h with
  | 0 => slices_S128x256_o0_0_S128x64
  | 1 => slices_S128x256_o0_64_S128x64
  | 2 => slices_S128x256_o0_128_S128x64
  | 3 => slices_S128x256_o0_192_S128x64

/-- Head `h`'s columns. -/
def headOf (h : Fin 4) (X : FVec F S128x256 .bf16) : FVec F S128x64 .bf16 := extractStridedSlice S128x64 ![0, 64 * h.val] X (headSlices h)

/-- A row of a slot, without its axes of length one. -/
def rowsOf (X : Vec F S1x1x1x128x256 .bf16) : FVec F S128x256 .bf16 := shapeCast S128x256 X shapeCasts_S1x1x1x128x256_S128x256

/-- The scores of head `h` of the queries `Q` against the keys `K` of one slot. -/
def scoreOf (M : IVec S128x128 1) (h : Fin 4) (Q : FVec F S128x256 .bf16) (K : Vec F S1x1x1x128x256 .bf16) : FVec F S128x128 .f32 :=
  select M
    (mulf (matmul dot_S128x64_S128x64_S128x128_1_1_0_0_n_n none (headOf h Q) (headOf h (rowsOf K)) (constant S128x128 .f32 0x00000000#32))
      (broadcast S128x128 (Scalar.ofBits .f32 0x3E000000#32)))
    (broadcast S128x128 (Scalar.ofBits .f32 0xCE6E6B28#32))

/-- The exponentials of a row of scores, shifted by the row's maximum. -/
def expOf (S : FVec F S128x512 .f32) : FVec F S128x512 .f32 :=
  exp (subf S (broadcastTo S128x512
    (shapeCast S128x1 (multiReduction .maximumf [1] S128 S 0xFF800000#32 reduces_S128x512_S128 (.inl rfl) rfl) shapeCasts_S128_S128x1)
    broadcasts_S128x1_S128x512))

/-- The exponentials over their row sums. -/
def weightsOf (E : FVec F S128x512 .f32) : FVec F S128x512 .bf16 :=
  truncf .bf16 (divf E (broadcastTo S128x512
    (shapeCast S128x1 (multiReduction .add [1] S128 E 0x00000000#32 reduces_S128x512_S128 (.inl rfl) rfl) shapeCasts_S128_S128x1)
    broadcasts_S128x1_S128x512)) bitsLt_bf16_f32

/-- The scores of the four slots side by side. -/
def sideBySide (S : Fin 4 → FVec F S128x128 .f32) : FVec F S128x512 .f32 :=
  concatenate S128x512 1 [⟨S128x128, S 0⟩, ⟨S128x128, S 1⟩, ⟨S128x128, S 2⟩, ⟨S128x128, S 3⟩] concatenates_S128x128_S128x128_S128x128_S128x128_S128x512_d1

/-- Head `h` of the values of the four slots one below the other. -/
def stacked (h : Fin 4) (V : Fin 4 → Vec F S1x1x1x128x256 .bf16) : FVec F S512x64 .bf16 :=
  concatenate S512x64 0 [⟨S128x64, headOf h (rowsOf (V 0))⟩, ⟨S128x64, headOf h (rowsOf (V 1))⟩, ⟨S128x64, headOf h (rowsOf (V 2))⟩, ⟨S128x64, headOf h (rowsOf (V 3))⟩]
    concatenates_S128x64_S128x64_S128x64_S128x64_S512x64_d0

/-- Head `h` of the attention of the device at place `v`. -/
def attendOf (v : BitVec 32) (Q : FVec F S128x256 .bf16) (K V : Fin 4 → Vec F S1x1x1x128x256 .bf16) (h : Fin 4) : FVec F S128x64 .f32 :=
  matmul dot_S128x512_S512x64_S128x64_1_0_0_1_n_n none
    (weightsOf (expOf (sideBySide fun r => scoreOf (maskOf v r) h Q (K r)))) (stacked h V) (constant S128x64 .f32 0x00000000#32)

/-! ## One batch entry -/

/-- The projected queries. -/
def queriesOf (x : Vec F S1x128x512 .f32) (wq : Vec F S512x256 .f32) : FVec F S128x256 .bf16 :=
  truncf .bf16 (matmul dot_S128x512_S512x256_S128x256_1_0_0_1_n_n none (shapeCast S128x512 x shapeCasts_S1x128x512_S128x512)
    (shapeCast S512x256 wq shapeCasts_S512x256_S512x256) (constant S128x256 .f32 0x00000000#32)) bitsLt_bf16_f32

/-- The four heads side by side, projected. -/
def projectOf (A : Fin 4 → FVec F S128x64 .f32) (wo : Vec F S256x512 .f32) : FVec F S1x128x512 .f32 :=
  shapeCast S1x128x512 (matmul dot_S128x256_S256x512_S128x512_1_0_0_1_n_n none
    (concatenate S128x256 1 [⟨S128x64, A 0⟩, ⟨S128x64, A 1⟩, ⟨S128x64, A 2⟩, ⟨S128x64, A 3⟩] concatenates_S128x64_S128x64_S128x64_S128x64_S128x256_d1)
    (shapeCast S256x512 wo shapeCasts_S256x512_S256x512) (constant S128x512 .f32 0x00000000#32)) shapeCasts_S128x512_S1x128x512

/-- What the device at place `v` writes for one batch entry. -/
def entryOf (v : BitVec 32) (x : Vec F S1x128x512 .f32) (wq : Vec F S512x256 .f32) (K V : Fin 4 → Vec F S1x1x1x128x256 .bf16)
    (wo : Vec F S256x512 .f32) : FVec F S1x128x512 .f32 :=
  projectOf (attendOf v (queriesOf x wq) K V) wo

end Cert.Exchange
end
-- ==== Proof.Steps.lean ====
/-
What a device holds when its body starts and when it ends, and the rules for the body's operations on the four slots:
a signal, a send, a wait for an arrival, a load of one row of a slot.
-/
module

public import proofs.«01_k».proof.Proof.Protocol
public import proofs.«01_k».proof.Proof.Result

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values of the loads and the result -/

/-- Batch entry `b` of the input block. -/
def entry (X : S2x128x512.Idx → Elt F .f32) (b : Fin 2) : Vec F S1x128x512 .f32 := fun i => X (ix3 b (i 1) (i 2))

/-- Batch entry `b` of slot `r` of device `c`: the keys (`t = 0`) or the values (`t = 1`). -/
def slotRow (c : Dev nD) (t b : Fin 2) (r : Fin 4) : Vec F S1x1x1x128x256 .bf16 := fun i => kvAll m c (ix5 r t b (i 3) (i 4))

/-- Batch entry `b` of what device `c` writes. -/
def outEntry (c : Dev nD) (b : Fin 2) : Vec F S1x128x512 .f32 :=
  entryOf (place c) (entry (xstg m c) b) (qstg m c) (slotRow m c 0 b) (slotRow m c 1 b) (ostg m c)

/-- What device `c` writes. -/
def outAt (c : Dev nD) : (cc0_stg5_0 : Ref sig .tc).ty.Contents (Elt F) :=
  fun (i : S2x128x512.Idx) => outEntry m c (i 0) (ix3 0 (i 1) (i 2))

/-! ## The ghost state -/

/-- The seven semaphores of the exchange: the barrier, the three send and the three receive semaphores. -/
abbrev csem (j : Fin 7) : SemLoc sig := match j with
  | 0 => .reg barS | 1 => .dma (sndS 0) | 2 => .dma (sndS 1) | 3 => .dma (sndS 2)
  | 4 => .dma (rcvS 0) | 5 => .dma (rcvS 1) | 6 => .dma (rcvS 2)
/-- A semaphore of the exchange on a device. -/
abbrev kcell (ck : Dev nD × Fin 7) : GSem nD τ sig := ((ck.1 : Thread nD τ), csem ck.2)

/-- The positions of step `k`'s send and receive semaphores among the seven. -/
abbrev jS (k : Fin 3) : Fin 7 := ⟨1 + k.val, by omega⟩
abbrev jR (k : Fin 3) : Fin 7 := ⟨4 + k.val, by omega⟩
theorem kcell_snd (c : Dev nD) (k : Fin 3) : kcell (c, jS k) = sndCell k c := by fin_cases k <;> rfl
theorem kcell_rcv (c : Dev nD) (k : Fin 3) : kcell (c, jR k) = rcvCell k c := by fin_cases k <;> rfl

/-- The shared facts: every semaphore's invariant, under the names `K`, and that each is at its first round. -/
def records (K : Dev nD × Fin 7 → ℕ) : sProp 𝕄 :=
  iprop((bigSep Finset.univ fun ck : Dev nD × Fin 7 => cellInv EX (sched m) (K ck) (kcell ck))
    ∗ bigSep Finset.univ fun ck : Dev nD × Fin 7 => reached EX (kcell ck) 0)

instance records_persistent (K : Dev nD × Fin 7 → ℕ) : BI.Persistent (records m K) := by unfold records; infer_instance

/-- Each semaphore's invariant, and that it is at its first round, out of the shared facts. -/
theorem inv_bar (K : Dev nD × Fin 7 → ℕ) (c : Dev nD) : records m K ⊢ cellInv EX (sched m) (K (c, 0)) (barCell c) :=
  sep_elim_left.trans (bigSep_elim (Finset.mem_univ (c, (0 : Fin 7))))
theorem inv_snd (K : Dev nD × Fin 7 → ℕ) (k : Fin 3) (c : Dev nD) : records m K ⊢ cellInv EX (sched m) (K (c, jS k)) (sndCell k c) := by
  rw [← kcell_snd]; exact sep_elim_left.trans (bigSep_elim (Finset.mem_univ (c, jS k)))
theorem inv_rcv (K : Dev nD × Fin 7 → ℕ) (k : Fin 3) (c : Dev nD) : records m K ⊢ cellInv EX (sched m) (K (c, jR k)) (rcvCell k c) := by
  rw [← kcell_rcv]; exact sep_elim_left.trans (bigSep_elim (Finset.mem_univ (c, jR k)))
theorem first_bar (K : Dev nD × Fin 7 → ℕ) (c : Dev nD) : records m K ⊢ reached EX (barCell c) 0 :=
  sep_elim_right.trans (bigSep_elim (Finset.mem_univ (c, (0 : Fin 7))))
theorem first_snd (K : Dev nD × Fin 7 → ℕ) (k : Fin 3) (c : Dev nD) : records m K ⊢ reached EX (sndCell k c) 0 := by
  rw [← kcell_snd]; exact sep_elim_right.trans (bigSep_elim (Finset.mem_univ (c, jS k)))
theorem first_rcv (K : Dev nD × Fin 7 → ℕ) (k : Fin 3) (c : Dev nD) : records m K ⊢ reached EX (rcvCell k c) 0 := by
  rw [← kcell_rcv]; exact sep_elim_right.trans (bigSep_elim (Finset.mem_univ (c, jR k)))

/-- The tokens of the duties device `c` pays. -/
def payToks (c : Dev nD) : sProp 𝕄 :=
  iprop((bigSep Finset.univ fun k : Fin 3 => dutyTok EX (barCell (up k c)) 0 k)
    ∗ (bigSep Finset.univ fun k : Fin 3 => dutyTok EX (rcvCell k (up k c)) 0 0)
    ∗ bigSep Finset.univ fun k : Fin 3 => dutyTok EX (sndCell k c) 0 0)
/-- What only device `c` holds: its positions and those tokens. -/
def linear (c : Dev nD) : sProp 𝕄 :=
  iprop((atPos EX (barCell c) 0 ∅ 0 ∗ (bigSep Finset.univ fun k : Fin 3 => atPos EX (sndCell k c) 0 ∅ 0)
    ∗ bigSep Finset.univ fun k : Fin 3 => atPos EX (rcvCell k c) 0 ∅ 0) ∗ payToks c)
/-- A device's ghost state: the shared facts and its own part. -/
def ghost (K : Dev nD × Fin 7 → ℕ) (c : Dev nD) : sProp 𝕄 := iprop(records m K ∗ linear c)

/-- What device `c`'s body starts from, besides the buffers. -/
def start (c : Dev nD) : sProp 𝕄 :=
  iprop((∃ K, ghost m K c) ∗ cred (tallyAt (barCell c) () 3) ∗ (bigSep Finset.univ fun k : Fin 3 => cred (tallyAt (rcvCell k c) () N)) ∗ levAts L lv)

/-- The scratch buffer of the four slots, whole. -/
def scrPts (c : Dev nD) (f : Buf (Elt F) ((c : Thread nD τ).loc cc0_scratch0)) : sProp 𝕄 := ((c : Thread nD τ).loc cc0_scratch0) ↦{fullShare} f

/-- A conjunction over four indices, written out. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- The scratch buffer is its four slots. -/
theorem scr_slots (c : Dev nD) (f : Buf (Elt F) ((c : Thread nD τ).loc cc0_scratch0)) :
    (scrPts c f : sProp 𝕄) = iprop(slotPts c 0 fullShare f ∗ slotPts c 1 fullShare f ∗ slotPts c 2 fullShare f ∗ slotPts c 3 fullShare f) := by
  unfold scrPts slotPts
  rw [Ring.pointsTo_blocks slotSet slot_disjoint slot_cover, bigSep_four]

/-- At the start the scratch buffer holds anything. -/
def Φ₀ (c : Dev nD) : sProp 𝕄 := iprop(start m c ∗ ∃ f, scrPts c f)
/-- At the end the four slots are filled and the seven semaphores are back at zero. -/
def Φ₁ (c : Dev nD) : sProp 𝕄 :=
  iprop(scrPts c (kvAll m c) ∗ semVal (barCell c) 0 ∗ (semVal (sndCell 0 c) 0 ∗ semVal (sndCell 1 c) 0 ∗ semVal (sndCell 2 c) 0)
    ∗ semVal (rcvCell 0 c) 0 ∗ semVal (rcvCell 1 c) 0 ∗ semVal (rcvCell 2 c) 0)

/-- The run of the call as the pipeline sees it: the arrays at launch, the blocks after the body, the body's states, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => qstg m c
    | ⟨2, _⟩ => kstg m c
    | ⟨3, _⟩ => vstg m c
    | ⟨4, _⟩ => ostg m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- No loop of the kernel needs a measure. -/
abbrev 𝒱₀ : Variants := Variants.none

/-! ## The rules -/

section Rules

variable {c : Dev nD}

/-- Step `k`'s signal: it hands the addressed device the slot that device will write. -/
theorem wp_signal_step (k : Fin 3) (n : Dev nD) (hn : n = up k c) (K : Dev nD × Fin 7 → ℕ) (O O' : CellTallies nD τ sig Unit) (hO : O' = O + owB k c)
    {W : Waits sig Unit} {f} {α : Type} {Q : α → sProp 𝕄} {κ : PUnit → Prog (TpuEff nD τ sig (Elt F) Λ₀ .tc) α} :
    iprop(records m K ∗ owes (c : Thread nD τ) O' W ∗ dutyTok EX (barCell (up k c)) 0 k ∗ slotPts c k.rev.succ fullShare f)
      ⊢ iprop((owes (c : Thread nD τ) O W -∗ wp frame (wpE (defs₀ (F := F)) 𝒱₀ (c : Thread nD τ) none) Set.univ (κ ⟨⟩) Q)
          -∗ wp frame (wpE (defs₀ (F := F)) 𝒱₀ (c : Thread nD τ) none) Set.univ (.op (.semSignal (n : Thread nD τ) barS (1#32).toInt) κ) Q) := by
  subst hn
  iintro ⟨#HR, HO, Ht, Hs⟩
  iapply (Rounds.wp_signal 𝒱₀ EX (sched m) (c : Thread nD τ) none (dst := (up k c : Thread nD τ)) (κ := K (up k c, 0))
      (d := k) (by rw [duties_bar]; exact Finset.mem_univ _) ((amount_bar m (up k c) k).trans (by decide)) () O hO)
  isplitr; · iapply (inv_bar m K (up k c)); iexact HR
  isplitl [HO]; · iexact HO
  isplitl [Ht]; · iexact Ht
  isplitl [Hs]
  · rw [payload_bar]; unfold barPay; rw [up_rev_up]
    isplitl [Hs]; · iexists f; iexact Hs
    iapply (first_rcv m K k.rev c); iexact HR
  · iapply (first_bar m K (up k c)); iexact HR

/-- Step `k`'s send: slot 0 into slot `k + 1` of the addressed device. -/
theorem wp_send_step (k : Fin 3) (n : Dev nD) (hn : n = up k c) (K : Dev nD × Fin 7 → ℕ) (O O' : CellTallies nD τ sig Unit) (hO : O' = O + owR k c)
    {src : Memref sig .tc .vmem S2x2x128x256 .bf16} {dst : Memref sig (n : Thread nD τ).2.kind .vmem S2x2x128x256 .bf16} {qs qr : DmaSem sig}
    (hs : src = slotM 0) (hd : dst = slotM k.succ) (hqs : qs = sndS k) (hqr : qr = rcvS k)
    {hsc : dst.view.ref.isScScratch = false} {hsrc : src.view.WordExact} {hdst : dst.view.WordExact}
    {hsem : DmaTarget.Typed .vmem (.dma qr) (.remote (n : Thread nD τ) dst (.dma qs) hsc)}
    {W : Waits sig Unit} {fn} {α : Type} {Q : α → sProp 𝕄} {κ : PUnit → Prog (TpuEff nD τ sig (Elt F) Λ₀ .tc) α} :
    iprop(records m K ∗ owes (c : Thread nD τ) O' W ∗ dutyTok EX (sndCell k c) 0 0 ∗ dutyTok EX (rcvCell k (up k c)) 0 0
        ∗ slotPts c 0 (lend k) (kvAll m c) ∗ slotPts (up k c) k.succ fullShare fn)
      ⊢ iprop(((cred (tallyAt (sndCell k c) () N) ∗ owes (c : Thread nD τ) O W)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma src (.remote (n : Thread nD τ) dst (.dma qs) hsc) (.dma qr) hsrc hdst hsem) κ) Q) := by
  subst hn hs hd hqs hqr
  have e₁ : (slotPts c 0 (lend k) (kvAll m c) : sProp 𝕄) = ((slotM 0).view.loc (c : Thread nD τ) ↦[(slotM 0).view.set]{lend k} (kvAll m c)) := by
    unfold slotPts; rw [slotM_set]
  have e₂ : (slotPts (up k c) k.succ fullShare fn : sProp 𝕄)
      = ((slotM k.succ).view.loc (up k c : Thread nD τ) ↦[(slotM k.succ).view.set]{fullShare} fn) := by
    unfold slotPts; rw [slotM_set]
  rw [e₁, e₂]
  iintro ⟨#HR, HO, Hts, Htr, Hsrc, Hdst⟩
  have h₁ : ((slotM 0).view.loc (c : Thread nD τ) ↦[(slotM 0).view.set]{lend k} (kvAll m c) : sProp 𝕄) ⊢ (sched m).payload (sndCell k c) 0 0 := by
    rw [payload_snd, e₁]
  have h₂ : (((slotM k.succ).view.loc (up k c : Thread nD τ)) ↦[(slotM k.succ).view.set]{fullShare}
        ((slotM k.succ).view.write (Elt F) fn ((slotM 0).view.read (Elt F) (kvAll m c)) Finset.univ) : sProp 𝕄)
      ⊢ (sched m).payload (rcvCell k (up k c)) 0 0 := by
    rw [payload_rcv, landed_eq]
  have h₃ : (slotM k.succ).view.amount (.dma (rcvS k)) = N := rfl
  iapply (Rounds.wp_send_pointsTo 𝒱₀ EX (sched m) (c : Thread nD τ) none (c' := (up k c : Thread nD τ)) (src := slotM 0) (dst := slotM k.succ)
    (sS := .dma (sndS k)) (sem := .dma (rcvS k)) (hsc := hsc) (hsrc := hsrc) (hdst := hdst) (hsem := hsem) (q := lend k) (fs := kvAll m c)
    (κ₁ := K (c, jS k)) (κ₂ := K (up k c, jR k))
    (r₁ := 0) (r₂ := 0) (d₁ := 0) (d₂ := 0) (fd := fn)
    (by rw [duties_snd]; exact Finset.mem_singleton_self _) (by rw [duties_rcv]; exact Finset.mem_singleton_self _)
    () () N h₃ (amount_snd m c k 0) (amount_rcv m (up k c) k 0) O hO (W := W) h₁ h₂)
  isplitr; · iapply (inv_snd m K k c); iexact HR
  isplitr; · iapply (inv_rcv m K k (up k c)); iexact HR
  isplitl [Hsrc]; · iexact Hsrc
  isplitl [Hdst]; · iexact Hdst
  isplitl [HO]; · iexact HO
  isplitl [Hts]; · iexact Hts
  isplitr; · iapply (first_snd m K k c); iexact HR
  isplitl [Htr]; · iexact Htr
  iapply (first_rcv m K k (up k c)); iexact HR
/-- The wait for step `k`'s arrival: the slot is filled. -/
theorem wp_arrived (k : Fin 3) (K : Dev nD × Fin 7 → ℕ) {q : DmaSem sig} {src dst : Memref sig .tc .vmem S2x2x128x256 .bf16}
    (hq : q = rcvS k) (hd : dst = slotM k.succ) {hsrc : src.view.WordExact} {hdst : dst.view.WordExact}
    {W : Waits sig Unit} {α : Type} {Q : α → sProp 𝕄} {κ : PUnit → Prog (TpuEff nD τ sig (Elt F) Λ₀ .tc) α} :
    iprop(records m K ∗ cred (tallyAt (rcvCell k c) () N) ∗ owes (c : Thread nD τ) 0 W ∗ atPos EX (rcvCell k c) 0 ∅ 0)
      ⊢ iprop(((owes (c : Thread nD τ) 0 (insert (SemLoc.dma (rcvS k), ()) W) ∗ semVal (rcvCell k c) 0 ∗ slotPts c k.succ fullShare (kvAll m c))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 q src dst hsrc hdst) κ) Q) := by
  subst hq hd
  iintro ⟨#HR, Hc, HO, Hat⟩ Hk
  iapply (Rounds.wp_wait_rest_token 𝒱₀ EX (sched m) (c : Thread nD τ) none (κ := K (c, jR k))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iapply (inv_rcv m K k c); iexact HR
    isplitl [Hc]; · iexact Hc
    isplitl [HO]; · iexact HO
    isplitr; · rw [MayWait_zero]; iempintro
    iexact Hat
  iintro ⟨HO, Hat, -, Hpay⟩
  ihave Hs := (Entails.of_eq (rest_rcv m c k)) $$ Hpay
  imod (Rounds.cell_close EX (sched m) (Set.mem_univ (K (c, jR k))) (fun h => h) (R := 0 + 1) (duties_later m (rcvCell k c))) $$ [Hat] with Hz
  · isplitr; · iapply (inv_rcv m K k c); iexact HR
    iexact Hat
  iapply Hk
  isplitl [HO]; · iexact HO
  isplitl [Hz]; · iexact Hz
  iexact Hs

/-- The wait for step `k`'s departure: the borrowed share of slot 0 is back. -/
theorem wp_departed (k : Fin 3) (K : Dev nD × Fin 7 → ℕ) {q : DmaSem sig} {src dst : Memref sig .tc .vmem S2x2x128x256 .bf16}
    (hq : q = sndS k) (hd : dst = slotM 0) {hsrc : src.view.WordExact} {hdst : dst.view.WordExact}
    {W : Waits sig Unit} {α : Type} {Q : α → sProp 𝕄} {κ : PUnit → Prog (TpuEff nD τ sig (Elt F) Λ₀ .tc) α} :
    iprop(records m K ∗ cred (tallyAt (sndCell k c) () N) ∗ owes (c : Thread nD τ) 0 W ∗ atPos EX (sndCell k c) 0 ∅ 0)
      ⊢ iprop(((owes (c : Thread nD τ) 0 (insert (SemLoc.dma (sndS k), ()) W) ∗ semVal (sndCell k c) 0 ∗ slotPts c 0 (lend k) (kvAll m c))
            -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 q src dst hsrc hdst) κ) Q) := by
  subst hq hd
  iintro ⟨#HR, Hc, HO, Hat⟩ Hk
  iapply (Rounds.wp_wait_rest_token 𝒱₀ EX (sched m) (c : Thread nD τ) none (κ := K (c, jS k))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_snd m K k c); iexact HR
    isplitl [Hc]; · iexact Hc
    isplitl [HO]; · iexact HO
    isplitr; · rw [MayWait_zero]; iempintro
    iexact Hat
  iintro ⟨HO, Hat, -, Hpay⟩
  ihave Hs := (Entails.of_eq (rest_snd m c k)) $$ Hpay
  imod (Rounds.cell_close EX (sched m) (Set.mem_univ (K (c, jS k))) (fun h => h) (R := 0 + 1) (duties_later m (sndCell k c))) $$ [Hat] with Hz
  · isplitr; · iapply (inv_snd m K k c); iexact HR
    iexact Hat
  iapply Hk
  isplitl [HO]; · iexact HO
  isplitl [Hz]; · iexact Hz
  iexact Hs

/-- The wait on the barrier: the three slots this device will write. -/
theorem wp_barrier (K : Dev nD × Fin 7 → ℕ) {W : Waits sig Unit} {α : Type} {Q : α → sProp 𝕄} {κ : PUnit → Prog (TpuEff nD τ sig (Elt F) Λ₀ .tc) α} :
    iprop(records m K ∗ levAts L lv ∗ cred (tallyAt (barCell c) () 3) ∗ owes (c : Thread nD τ) (OR c) W ∗ atPos EX (barCell c) 0 ∅ 0)
      ⊢ iprop(((owes (c : Thread nD τ) (OR c) (insert (SemLoc.reg barS, ()) W) ∗ semVal (barCell c) 0
              ∗ (∃ f, slotPts (up 0 c) 1 fullShare f) ∗ (∃ f, slotPts (up 1 c) 2 fullShare f) ∗ (∃ f, slotPts (up 2 c) 3 fullShare f))
            -∗ wp frame (wpE (defs₀ (F := F)) 𝒱₀ (c : Thread nD τ) none) Set.univ (κ ⟨⟩) Q)
          -∗ wp frame (wpE (defs₀ (F := F)) 𝒱₀ (c : Thread nD τ) none) Set.univ (.op (.semWait barS (3#32).toInt) κ) Q) := by
  iintro ⟨#HR, #Hlev, Hc, HO, Hat⟩ Hk
  iapply (Rounds.wp_wait_rest_token 𝒱₀ EX (sched m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H3, -⟩, ⟨H2, -⟩, ⟨H1, -⟩⟩
  imod (Rounds.cell_close EX (sched m) (Set.mem_univ (K (c, 0))) (fun h => h) (R := 0 + 1) (duties_later m (barCell c))) $$ [Hat] with Hz
  · isplitr; · iapply (inv_bar m K c); iexact HR
    iexact Hat
  iapply Hk
  isplitl [HO]; · iexact HO
  isplitl [Hz]; · iexact Hz
  isplitl [H1]; · iexact H1
  isplitl [H2]; · iexact H2
  iexact H3

/-- A load of one row of a filled slot. -/
theorem wp_load_row (r : Fin 4) (t b : Fin 2) {q : PosShare TreeShare} {off : Fin 5 → Nat} (hoff : off = ![r.val, t.val, b.val, 0, 0])
    {hin : ∀ a, off a + S1x1x1x128x256.size a ≤ S4x2x2x128x256.size a}
    {hl : kvM.view.LoadsAt (Rect.unit (s := S4x2x2x128x256) off S1x1x1x128x256.size hin).toLoadRect}
    {α : Type} {Q : α → sProp 𝕄} {κ : Vec F S1x1x1x128x256 .bf16 → Prog (TpuEff nD τ sig (Elt F) Λ₀ .tc) α} :
    slotPts c r q (kvAll m c)
      ⊢ iprop((slotPts c r q (kvAll m c) -∗ wp frame (wpE (defs₀ (F := F)) 𝒱₀ (c : Thread nD τ) none) Set.univ (κ (slotRow m c t b r)) Q)
          -∗ wp frame (wpE (defs₀ (F := F)) 𝒱₀ (c : Thread nD τ) none) Set.univ
              (.op (.load kvM (Rect.unit (s := S4x2x2x128x256) off S1x1x1x128x256.size hin).toLoadRect hl) κ) Q) := by
  subst hoff
  have hv : kvM.view.readAt (Elt F) (Rect.unit (s := S4x2x2x128x256) ![r.val, t.val, b.val, 0, 0] S1x1x1x128x256.size hin).toLoadRect (kvAll m c)
      = slotRow m c t b r := by
    funext i
    show kvAll m c ((Rect.unit (s := S4x2x2x128x256) ![r.val, t.val, b.val, 0, 0] S1x1x1x128x256.size hin).emb i) = _
    unfold slotRow
    congr 1
    funext a
    apply Fin.ext
    rw [Rect.emb_apply]
    have h0 := (i 0).isLt; have h1 := (i 1).isLt; have h2 := (i 2).isLt
    fin_cases a
    · show r.val + 1 * (i 0).val = r.val
      have : (i 0).val < 1 := h0
      omega
    · show t.val + 1 * (i 1).val = t.val
      have : (i 1).val < 1 := h1
      omega
    · show b.val + 1 * (i 2).val = b.val
      have : (i 2).val < 1 := h2
      omega
    · show 0 + 1 * (i 3).val = (i 3).val
      omega
    · show 0 + 1 * (i 4).val = (i 4).val
      omega
  rw [← hv]
  refine wp_load 𝒱₀ (c : Thread nD τ) none Set.univ (m := kvM) (S := slotSet r) ?_
  intro i hi
  obtain ⟨j, hj, rfl⟩ := Finset.mem_map.mp hi
  rw [mem_slotSet]
  have h0 := Rect.mem_set_unit.mp hj 0
  have h1 : r.val ≤ (j 0).val ∧ (j 0).val < r.val + 1 := h0
  show (j 0).val = r.val
  omega

end Rules

end Cert.Exchange

end
-- ==== Proof.Body.lean ====
/-
The body of the kernel on one device: the three signals, the filling of slot 0, the barrier, the three sends, the three
arrivals with the scores of each slot, the attention of both batch entries, the three departures.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores of whole buffers and of batch entries -/

/-- The kernel's rectangles that are a whole buffer. -/
theorem zero4 : (![0, 0, 0, 0] : Fin 4 → Nat) = fun _ => 0 := funext fun a => by fin_cases a <;> rfl
theorem zero2 : (![0, 0] : Fin 2 → Nat) = fun _ => 0 := funext fun a => by fin_cases a <;> rfl

/-- A buffer held whole. -/
abbrev stg (c : Dev nD) (b : Ref sig .tc) (X : b.ty.Contents (Elt F)) : sProp 𝕄 := (((c : Thread nD τ).loc b) ↦{fullShare} X)

/-- A load from a buffer held whole, of a known value. -/
theorem wp_load_eq {c : Dev nD} {s : Shape} {e : EltTy} {M : Memref sig .tc .vmem s e} {r : LoadRect s} {f : Buf (Elt F) (M.view.loc (c : Thread nD τ))}
    {X : r.shape.Idx → Elt F e} (hv : M.view.readAt (Elt F) r f = X) {hl : M.view.LoadsAt r}
    {α : Type} {Q : α → sProp 𝕄} {κ : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ wp frame (wpE (defs₀ (F := F)) 𝒱₀ (c : Thread nD τ) none) Set.univ (κ X) Q)
          -∗ wp frame (wpE (defs₀ (F := F)) 𝒱₀ (c : Thread nD τ) none) Set.univ (.op (.load M r hl) κ) Q) := by
  subst hv
  exact wp_load 𝒱₀ (c : Thread nD τ) none Set.univ (m := M) (Finset.subset_univ _)

/-- A store into a buffer held at some elements. -/
theorem wp_store_on {c : Dev nD} {s : Shape} {e : EltTy} {M : Memref sig .tc .vmem s e} {r : Rect s} {w : r.shape.Idx → Elt F e}
    {hx : (M.access r).Stores Finset.univ} {hm : Finset.univ = (Finset.univ : Finset r.shape.Idx) ∨ ∀ a, r.stride a = 1}
    {S : Finset (Idx ((M.access r).loc (c : Thread nD τ)))} (hS : (M.access r).setOn Finset.univ ⊆ S) {f : Buf (Elt F) ((M.access r).loc (c : Thread nD τ))}
    {α : Type} {Q : α → sProp 𝕄} {κ : PUnit → Prog (TpuEff nD τ sig (Elt F) Λ₀ .tc) α} :
    ((M.access r).loc (c : Thread nD τ) ↦[S]{fullShare} f)
      ⊢ iprop((((M.access r).loc (c : Thread nD τ) ↦[S]{fullShare} ((M.access r).write (Elt F) f w Finset.univ))
            -∗ wp frame (wpE (defs₀ (F := F)) 𝒱₀ (c : Thread nD τ) none) Set.univ (κ ⟨⟩) Q)
          -∗ wp frame (wpE (defs₀ (F := F)) 𝒱₀ (c : Thread nD τ) none) Set.univ (.op (.store M r w Finset.univ hx hm) κ) Q) :=
  wp_store 𝒱₀ (c : Thread nD τ) none Set.univ (m := M) (r := r) (Mk := Finset.univ) hS

section Reads
variable (c : Dev nD)

/-- Loading the query weights whole; the next three theorems say the same of the keys, the values and the output weights. -/
theorem read_q (X : (cc0_stg1_0 : Ref sig .tc).ty.Contents (Elt F)) : (Memref.whole cc0_stg1_0 : Memref sig .tc .vmem S512x256 .f32).view.readAt (Elt F)
    (Rect.unit (s := S512x256) ![0, 0] S512x256.size inb_S512x256_S512x256_0_0).toLoadRect X = X :=
  Memref.readAt_unit_zero (Elt F) cc0_stg1_0 zero2 _ X
theorem read_k (X : (cc0_stg2_0 : Ref sig .tc).ty.Contents (Elt F)) : (Memref.whole cc0_stg2_0 : Memref sig .tc .vmem S2x128x4x64 .f32).view.readAt (Elt F)
    (Rect.unit (s := S2x128x4x64) ![0, 0, 0, 0] S2x128x4x64.size inb_S2x128x4x64_S2x128x4x64_0_0_0_0).toLoadRect X = X :=
  Memref.readAt_unit_zero (Elt F) cc0_stg2_0 zero4 _ X
theorem read_v (X : (cc0_stg3_0 : Ref sig .tc).ty.Contents (Elt F)) : (Memref.whole cc0_stg3_0 : Memref sig .tc .vmem S2x128x4x64 .f32).view.readAt (Elt F)
    (Rect.unit (s := S2x128x4x64) ![0, 0, 0, 0] S2x128x4x64.size inb_S2x128x4x64_S2x128x4x64_0_0_0_0).toLoadRect X = X :=
  Memref.readAt_unit_zero (Elt F) cc0_stg3_0 zero4 _ X
theorem read_o (X : (cc0_stg4_0 : Ref sig .tc).ty.Contents (Elt F)) : (Memref.whole cc0_stg4_0 : Memref sig .tc .vmem S256x512 .f32).view.readAt (Elt F)
    (Rect.unit (s := S256x512) ![0, 0] S256x512.size inb_S256x512_S256x512_0_0).toLoadRect X = X :=
  Memref.readAt_unit_zero (Elt F) cc0_stg4_0 zero2 _ X

/-- A batch entry lies within the block. -/
theorem entry_inb (b : Fin 2) : ∀ a, (![b.val, 0, 0] : Fin 3 → Nat) a + S1x128x512.size a ≤ S2x128x512.size a := by
  revert b; decide
/-- Batch entry `b` as the kernel names it. -/
abbrev entryRect (b : Fin 2) : Rect S2x128x512 := Rect.unit (s := S2x128x512) ![b.val, 0, 0] S1x128x512.size (entry_inb b)

/-- Where the elements of a batch entry lie. -/
theorem entry_emb (b : Fin 2) (i : S1x128x512.Idx) : (entryRect b).emb i = ix3 b (i 1) (i 2) := by
  funext a
  apply Fin.ext
  rw [Rect.emb_apply]
  have h0 : (i 0).val < 1 := (i 0).isLt
  fin_cases a
  · show b.val + 1 * (i 0).val = b.val
    omega
  · show 0 + 1 * (i 1).val = (i 1).val
    omega
  · show 0 + 1 * (i 2).val = (i 2).val
    omega

/-- Loading batch entry `b` of the input. -/
theorem read_x (b : Fin 2) (X : (cc0_stg0_0 : Ref sig .tc).ty.Contents (Elt F)) :
    (Memref.whole cc0_stg0_0 : Memref sig .tc .vmem S2x128x512 .f32).view.readAt (Elt F) (entryRect b).toLoadRect X = entry X b := by
  funext i
  show X ((entryRect b).emb i) = _
  rw [entry_emb]; rfl

/-- The result block as the kernel stores into it. -/
abbrev outM : Memref sig .tc .vmem S2x128x512 .f32 := Memref.whole cc0_stg5_0

/-- A stored batch entry is found where it was stored. -/
theorem out_hit (b : Fin 2) (g : Vec F S2x128x512 .f32) (u : Vec F S1x128x512 .f32) (i : S2x128x512.Idx) (h : i 0 = b) :
    (outM.access (entryRect b)).write (Elt F) g u Finset.univ i = u (ix3 0 (i 1) (i 2)) := by
  have e : (outM.access (entryRect b)).emb (ix3 0 (i 1) (i 2) : S1x128x512.Idx) = i := by
    refine (entry_emb b _).trans ?_
    rw [← h]
    funext a; fin_cases a <;> rfl
  conv_lhs => rw [← e]
  rw [View.write_emb_of_mem _ _ (Finset.mem_univ _)]
  rfl

/-- The other batch entry stays. -/
theorem out_miss (b : Fin 2) (g : Vec F S2x128x512 .f32) (u : Vec F S1x128x512 .f32) (i : S2x128x512.Idx) (h : i 0 ≠ b) :
    (outM.access (entryRect b)).write (Elt F) g u Finset.univ i = g i := by
  refine View.write_of_not_mem _ _ _ fun hi => h ?_
  obtain ⟨x, -, e⟩ := Finset.mem_map.mp hi
  rw [← e]
  exact congrFun (entry_emb b x) 0

/-- After both batch entries are stored, the result block holds them. -/
theorem out_written (f : Vec F S2x128x512 .f32) (w : Fin 2 → Vec F S1x128x512 .f32) :
    (outM.access (entryRect 1)).write (Elt F) ((outM.access (entryRect 0)).write (Elt F) f (w 0) Finset.univ) (w 1) Finset.univ
      = fun (i : S2x128x512.Idx) => w (i 0) (ix3 0 (i 1) (i 2)) := by
  funext (i : S2x128x512.Idx)
  rcases (show ∀ b : Fin 2, b = 0 ∨ b = 1 by decide) (i 0) with h | h
  · rw [out_miss 1 _ _ i (by rw [h]; exact Fin.zero_ne_one), out_hit 0 _ _ i h, h]
  · rw [out_hit 1 _ _ i h, h]

end Reads

/-! ## Filling slot 0 -/

/-- A half of slot 0 lies within the scratch buffer. -/
theorem half_inb (t : Fin 2) : ∀ a, (![0, t.val, 0, 0, 0] : Fin 5 → Nat) a + S1x1x2x128x256.size a ≤ S4x2x2x128x256.size a := by
  revert t; decide
/-- The keys (`t = 0`) or the values (`t = 1`) of slot 0. -/
abbrev halfRect (t : Fin 2) : Rect S4x2x2x128x256 := Rect.unit (s := S4x2x2x128x256) ![0, t.val, 0, 0, 0] S1x1x2x128x256.size (half_inb t)

/-- Where the elements of a half of slot 0 lie. -/
theorem half_emb (t : Fin 2) (j : S1x1x2x128x256.Idx) : (halfRect t).emb j = ix5 0 t (j 2) (j 3) (j 4) := by
  funext a
  apply Fin.ext
  rw [Rect.emb_apply]
  have h0 : (j 0).val < 1 := (j 0).isLt
  have h1 : (j 1).val < 1 := (j 1).isLt
  fin_cases a
  · show 0 + 1 * (j 0).val = 0
    omega
  · show t.val + 1 * (j 1).val = t.val
    omega
  · show 0 + 1 * (j 2).val = (j 2).val
    omega
  · show 0 + 1 * (j 3).val = (j 3).val
    omega
  · show 0 + 1 * (j 4).val = (j 4).val
    omega

/-- A half of slot 0 is part of slot 0. -/
theorem half_sub (t : Fin 2) : (kvM.access (halfRect t)).setOn Finset.univ ⊆ slotSet 0 := by
  intro i hi
  obtain ⟨j, -, rfl⟩ := Finset.mem_map.mp hi
  rw [mem_slotSet]
  exact congrArg Fin.val (congrFun (half_emb t j) 0)

/-- A stored half is found where it was stored. -/
theorem half_hit (t : Fin 2) (g : Vec F S4x2x2x128x256 .bf16) (u : Vec F S1x1x2x128x256 .bf16) (i : S4x2x2x128x256.Idx) (h0 : (i 0).val = 0) (h : i 1 = t) :
    (kvM.access (halfRect t)).write (Elt F) g u Finset.univ i = u (ix5 0 0 (i 2) (i 3) (i 4)) := by
  have e : (kvM.access (halfRect t)).emb (ix5 0 0 (i 2) (i 3) (i 4) : S1x1x2x128x256.Idx) = i := by
    refine (half_emb t _).trans ?_
    rw [← h]
    funext a
    fin_cases a
    · exact Fin.ext h0.symm
    all_goals rfl
  conv_lhs => rw [← e]
  rw [View.write_emb_of_mem _ _ (Finset.mem_univ _)]
  rfl

/-- The other half stays. -/
theorem half_miss (t : Fin 2) (g : Vec F S4x2x2x128x256 .bf16) (u : Vec F S1x1x2x128x256 .bf16) (i : S4x2x2x128x256.Idx) (h : i 1 ≠ t) :
    (kvM.access (halfRect t)).write (Elt F) g u Finset.univ i = g i := by
  refine View.write_of_not_mem _ _ _ fun hi => h ?_
  obtain ⟨x, -, e⟩ := Finset.mem_map.mp hi
  rw [← e]
  exact congrFun (half_emb t x) 1

/-- Slot 0 once the device has stored its own keys and values there. -/
theorem filled (c : Dev nD) (f : Vec F S4x2x2x128x256 .bf16) :
    (slotPts c 0 fullShare ((kvM.access (halfRect 1)).write (Elt F)
        ((kvM.access (halfRect 0)).write (Elt F) f (k0_pay1 (kstg m c)) Finset.univ) (k0_pay2 (vstg m c)) Finset.univ) : sProp 𝕄)
      = slotPts c 0 fullShare (kvAll m c) := by
  unfold slotPts
  refine pointsTo_congr fun (i : S4x2x2x128x256.Idx) hi => ?_
  have h0 : (i 0).val = 0 := mem_slotSet.mp hi
  have h1 : org c (i 0) = c := (congrArg (org c) (Fin.ext h0)).trans (org_zero c)
  unfold kvAll
  rcases (show ∀ t : Fin 2, t = 0 ∨ t = 1 by decide) (i 1) with h | h
  · rw [half_miss 1 _ _ i (by rw [h]; exact Fin.zero_ne_one), half_hit 0 _ _ i h0 h, if_pos (show (i 1).val = 0 from congrArg Fin.val h), h1]
  · rw [half_hit 1 _ _ i h0 h, if_neg (show ¬ (i 1).val = 0 by rw [h]; exact Nat.one_ne_zero), h1]

/-- A load of half of slot 0, whatever it holds. -/
theorem wp_load_half {c : Dev nD} {off : Fin 5 → Nat} (t : Fin 2) (hoff : off = ![0, t.val, 0, 0, 0]) {hr : ∀ a, off a + S1x1x2x128x256.size a ≤ S4x2x2x128x256.size a}
    {q} {f : Vec F S4x2x2x128x256 .bf16} {hl : kvM.view.LoadsAt (Rect.unit (s := S4x2x2x128x256) off S1x1x2x128x256.size hr).toLoadRect}
    {α : Type} {Q : α → sProp 𝕄} {κ : (S1x1x2x128x256.Idx → Elt F .bf16) → Prog (TpuEff nD τ sig (Elt F) Λ₀ .tc) α} :
    slotPts c 0 q f
      ⊢ iprop((slotPts c 0 q f -∗ wp frame (wpE (defs₀ (F := F)) 𝒱₀ (c : Thread nD τ) none) Set.univ
            (κ (kvM.view.readAt (Elt F) (Rect.unit (s := S4x2x2x128x256) off S1x1x2x128x256.size hr).toLoadRect f)) Q)
          -∗ wp frame (wpE (defs₀ (F := F)) 𝒱₀ (c : Thread nD τ) none) Set.univ
            (.op (.load kvM (Rect.unit (s := S4x2x2x128x256) off S1x1x2x128x256.size hr).toLoadRect hl) κ) Q) := by
  subst hoff
  refine wp_load 𝒱₀ (c : Thread nD τ) none Set.univ (m := kvM) ?_
  intro i hi
  obtain ⟨j, hj, rfl⟩ := Finset.mem_map.mp hi
  have h0 := Rect.mem_set_unit.mp hj 0
  rw [mem_slotSet]
  show (j 0).val = 0
  change 0 ≤ (j 0).val ∧ (j 0).val < 0 + 1 at h0
  omega

/-- A store into half of slot 0. -/
theorem wp_store_half {c : Dev nD} {off : Fin 5 → Nat} (t : Fin 2) (hoff : off = ![0, t.val, 0, 0, 0]) {hr : ∀ a, off a + S1x1x2x128x256.size a ≤ S4x2x2x128x256.size a}
    {f : Vec F S4x2x2x128x256 .bf16} {w : Vec F S1x1x2x128x256 .bf16}
    {hx : (kvM.access (Rect.unit (s := S4x2x2x128x256) off S1x1x2x128x256.size hr)).Stores Finset.univ}
    {hm : Finset.univ = (Finset.univ : Finset S1x1x2x128x256.Idx) ∨ ∀ a, (Rect.unit (s := S4x2x2x128x256) off S1x1x2x128x256.size hr).stride a = 1}
    {α : Type} {Q : α → sProp 𝕄} {κ : PUnit → Prog (TpuEff nD τ sig (Elt F) Λ₀ .tc) α} :
    slotPts c 0 fullShare f
      ⊢ iprop((slotPts c 0 fullShare ((kvM.access (halfRect t)).write (Elt F) f w Finset.univ)
            -∗ wp frame (wpE (defs₀ (F := F)) 𝒱₀ (c : Thread nD τ) none) Set.univ (κ ⟨⟩) Q)
          -∗ wp frame (wpE (defs₀ (F := F)) 𝒱₀ (c : Thread nD τ) none) Set.univ
            (.op (.store kvM (Rect.unit (s := S4x2x2x128x256) off S1x1x2x128x256.size hr) w Finset.univ hx hm) κ) Q) := by
  subst hoff
  exact wp_store_on (M := kvM) (r := halfRect t) (half_sub t)

/-! ## The body -/

/-- What the body starts from. -/
def bodyPre (c : Dev nD) (K : Dev nD × Fin 7 → ℕ) (W : Waits sig Unit) : sProp 𝕄 :=
  iprop(ghost m K c ∗ cred (tallyAt (barCell c) () 3) ∗ (bigSep Finset.univ fun k : Fin 3 => cred (tallyAt (rcvCell k c) () N)) ∗ levAts L lv
    ∗ (∃ f, scrPts c f) ∗ owes (c : Thread nD τ) (O₀ c) W
    ∗ stg c cc0_stg0_0 (xstg m c) ∗ stg c cc0_stg1_0 (qstg m c) ∗ stg c cc0_stg2_0 (kstg m c) ∗ stg c cc0_stg3_0 (vstg m c) ∗ stg c cc0_stg4_0 (ostg m c)
    ∗ ∃ f, stg c cc0_stg5_0 f)

/-- What the body ends with. -/
def bodyPost (c : Dev nD) : sProp 𝕄 :=
  iprop(Φ₁ m c ∗ (∃ W, owes (c : Thread nD τ) 0 W)
    ∗ stg c cc0_stg0_0 (xstg m c) ∗ stg c cc0_stg1_0 (qstg m c) ∗ stg c cc0_stg2_0 (kstg m c) ∗ stg c cc0_stg3_0 (vstg m c) ∗ stg c cc0_stg4_0 (ostg m c)
    ∗ stg c cc0_stg5_0 (outAt m c))

set_option maxHeartbeats 4000000 in
set_option maxRecDepth 16384 in
/-- The body, one rule per effect in program order. -/
theorem sound_body (c : Dev nD) (K : Dev nD × Fin 7 → ℕ) (W : Waits sig Unit) (Kt : PUnit → sProp 𝕄) :
    iprop(bodyPre m c K W ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) cc0_scratch1 cc0_scratch2) Kt := by
  rw [cc0_body_eq_skeleton]; unfold cc0_body_skel
  unfold bodyPre ghost linear payToks
  simp only [bigSep_three]
  iintro ⟨⟨⟨#HR, ⟨HaB, ⟨HaS0, HaS1, HaS2⟩, HaR0, HaR1, HaR2⟩, ⟨HtB0, HtB1, HtB2⟩, ⟨HtR0, HtR1, HtR2⟩, HtS0, HtS1, HtS2⟩,
    HcB, ⟨HcR0, HcR1, HcR2⟩, #Hlev, ⟨%f0, Hscr⟩, HO, Hx, Hq, Hk, Hv, Ho, ⟨%g0, Hout⟩⟩, Hend⟩
  ihave Hscr := (Entails.of_eq (scr_slots c f0)) $$ Hscr
  icases Hscr with ⟨Hs0, Hs1, Hs2, Hs3⟩
  -- part 1
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part1_eq_skeleton]; unfold k0_part1_skel
  simp only [semSignalWord, semWaitWord, Prog.lift, Prog.bind_op, Prog.bind_ret, Prog.pure_eq_ret, wp_deviceId]
  iapply (wp_signal_step m 0 _ (dev1_eq c) K (OR c + owB 2 c + owB 1 c) _ rfl) $$ [HO HtB0 Hs3]
  · isplitr; · iexact HR
    isplitl [HO]; · iexact HO
    isplitl [HtB0]; · iexact HtB0
    iexact Hs3
  iintro HO
  iapply (wp_signal_step m 1 _ (dev2_eq c) K (OR c + owB 2 c) _ rfl) $$ [HO HtB1 Hs2]
  · isplitr; · iexact HR
    isplitl [HO]; · iexact HO
    isplitl [HtB1]; · iexact HtB1
    iexact Hs2
  iintro HO
  rw [wp_ret]; imodintro
  subst hK; dsimp only
  -- part 2
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part2_eq_skeleton]; unfold k0_part2_skel
  simp only [semSignalWord, semWaitWord, Prog.lift, Prog.bind_op, Prog.bind_ret, Prog.pure_eq_ret, wp_deviceId]
  iapply (wp_signal_step m 2 _ (dev3_eq c) K (OR c) _ rfl) $$ [HO HtB2 Hs1]
  · isplitr; · iexact HR
    isplitl [HO]; · iexact HO
    isplitl [HtB2]; · iexact HtB2
    iexact Hs1
  iintro HO
  iapply (wp_load_eq (read_k _)) $$ Hk; iintro Hk
  iapply (wp_load_half 0 rfl) $$ Hs0; iintro Hs0
  iapply (wp_store_half 0 rfl) $$ Hs0; iintro Hs0
  iapply (wp_load_eq (read_v _)) $$ Hv; iintro Hv
  iapply (wp_load_half 1 rfl) $$ Hs0; iintro Hs0
  iapply (wp_store_half 1 rfl) $$ Hs0; iintro Hs0
  ihave Hs0 := (Entails.of_eq (filled m c f0)) $$ Hs0
  ihave Hs0 := ((slot0_shares c (kvAll m c)).1) $$ Hs0
  icases Hs0 with ⟨⟨Hl0, Hl1⟩, Hl2, Hs0⟩
  iapply (wp_barrier m K) $$ [HcB HO HaB]
  · isplitr; · iexact HR
    isplitr; · iexact Hlev
    isplitl [HcB]; · iexact HcB
    isplitl [HO] <;> iassumption
  iintro ⟨HO, HzB, ⟨%f1, Hn0⟩, ⟨%f2, Hn1⟩, ⟨%f3, Hn2⟩⟩
  rw [wp_ret]; imodintro
  subst hK; dsimp only
  -- part 3
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part3_eq_skeleton]; unfold k0_part3_skel
  simp only [semSignalWord, semWaitWord, Prog.lift, Prog.bind_op, Prog.bind_ret, Prog.pure_eq_ret, wp_deviceId]
  unfold OR
  iapply (wp_send_step m 0 _ (dev4_eq c) K (owR 2 c + owR 1 c) _ rfl rfl rfl rfl rfl) $$ [HO HtS0 HtR0 Hl0 Hn0]
  · isplitr; · iexact HR
    isplitl [HO]; · iexact HO
    isplitl [HtS0]; · iexact HtS0
    isplitl [HtR0]; · iexact HtR0
    isplitl [Hl0]; · iexact Hl0
    iexact Hn0
  iintro ⟨HcS0, HO⟩
  rw [wp_ret]; imodintro
  subst hK; dsimp only
  -- part 4
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part4_eq_skeleton]; unfold k0_part4_skel
  simp only [semSignalWord, semWaitWord, Prog.lift, Prog.bind_op, Prog.bind_ret, Prog.pure_eq_ret, wp_deviceId]
  iapply (wp_send_step m 1 _ (dev5_eq c) K (owR 2 c) _ rfl rfl rfl rfl rfl) $$ [HO HtS1 HtR1 Hl1 Hn1]
  · isplitr; · iexact HR
    isplitl [HO]; · iexact HO
    isplitl [HtS1]; · iexact HtS1
    isplitl [HtR1]; · iexact HtR1
    isplitl [Hl1]; · iexact Hl1
    iexact Hn1
  iintro ⟨HcS1, HO⟩
  rw [wp_ret]; imodintro
  subst hK; dsimp only
  -- part 5
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part5_eq_skeleton]; unfold k0_part5_skel
  simp only [semSignalWord, semWaitWord, Prog.lift, Prog.bind_op, Prog.bind_ret, Prog.pure_eq_ret, wp_deviceId]
  iapply (wp_send_step m 2 _ (dev6_eq c) K (0) _ (zero_add _).symm rfl rfl rfl rfl) $$ [HO HtS2 HtR2 Hl2 Hn2]
  · isplitr; · iexact HR
    isplitl [HO]; · iexact HO
    isplitl [HtS2]; · iexact HtS2
    isplitl [HtR2]; · iexact HtR2
    isplitl [Hl2]; · iexact Hl2
    iexact Hn2
  iintro ⟨HcS2, HO⟩
  iapply (wp_load_eq (read_x 0 _)) $$ Hx; iintro Hx
  iapply (wp_load_eq (read_q _)) $$ Hq; iintro Hq
  iapply (wp_load_eq (read_x 1 _)) $$ Hx; iintro Hx
  rw [wp_ret]; imodintro
  subst hK; dsimp only
  -- part 6
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part6_eq_skeleton]; unfold k0_part6_skel
  simp only [semSignalWord, semWaitWord, Prog.lift, Prog.bind_op, Prog.bind_ret, Prog.pure_eq_ret, wp_deviceId]
  iapply (wp_load_eq (read_q _)) $$ Hq; iintro Hq
  rw [wp_ret]; imodintro
  subst hK; dsimp only
  -- part 7
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part7_eq_skeleton]; unfold k0_part7_skel
  simp only [semSignalWord, semWaitWord, Prog.lift, Prog.bind_op, Prog.bind_ret, Prog.pure_eq_ret, wp_deviceId]
  iapply (wp_load_row m 0 0 0 rfl) $$ Hs0; iintro Hs0
  rw [wp_ret]; imodintro
  subst hK; dsimp only
  -- part 8
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part8_eq_skeleton]; unfold k0_part8_skel
  simp only [semSignalWord, semWaitWord, Prog.lift, Prog.bind_op, Prog.bind_ret, Prog.pure_eq_ret, wp_deviceId]
  iapply (wp_load_row m 0 0 1 rfl) $$ Hs0; iintro Hs0
  rw [wp_ret]; imodintro
  subst hK; dsimp only
  -- part 9
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part9_eq_skeleton]; unfold k0_part9_skel
  simp only [semSignalWord, semWaitWord, Prog.lift, Prog.bind_op, Prog.bind_ret, Prog.pure_eq_ret, wp_deviceId]
  iapply (wp_arrived m 0 K rfl rfl) $$ [HO HcR0 HaR0]
  · isplitr; · iexact HR
    isplitl [HcR0]; · iexact HcR0
    isplitl [HO] <;> iassumption
  iintro ⟨HO, HzR0, Hs1⟩
  ihave Hs1 := (Entails.of_eq (show slotPts c (Fin.succ 0) fullShare (kvAll m c) = slotPts c 1 fullShare (kvAll m c) from rfl)) $$ Hs1
  rw [wp_ret]; imodintro
  subst hK; dsimp only
  -- part 10
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part10_eq_skeleton]; unfold k0_part10_skel
  simp only [semSignalWord, semWaitWord, Prog.lift, Prog.bind_op, Prog.bind_ret, Prog.pure_eq_ret, wp_deviceId]
  rw [wp_ret]; imodintro
  subst hK; dsimp only
  -- part 11
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part11_eq_skeleton]; unfold k0_part11_skel
  simp only [semSignalWord, semWaitWord, Prog.lift, Prog.bind_op, Prog.bind_ret, Prog.pure_eq_ret, wp_deviceId]
  iapply (wp_load_row m 1 0 0 rfl) $$ Hs1; iintro Hs1
  iapply (wp_load_row m 1 0 1 rfl) $$ Hs1; iintro Hs1
  rw [wp_ret]; imodintro
  subst hK; dsimp only
  -- part 12
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part12_eq_skeleton]; unfold k0_part12_skel
  simp only [semSignalWord, semWaitWord, Prog.lift, Prog.bind_op, Prog.bind_ret, Prog.pure_eq_ret, wp_deviceId]
  iapply (wp_arrived m 2 K rfl rfl) $$ [HO HcR2 HaR2]
  · isplitr; · iexact HR
    isplitl [HcR2]; · iexact HcR2
    isplitl [HO] <;> iassumption
  iintro ⟨HO, HzR2, Hs3⟩
  ihave Hs3 := (Entails.of_eq (show slotPts c (Fin.succ 2) fullShare (kvAll m c) = slotPts c 3 fullShare (kvAll m c) from rfl)) $$ Hs3
  rw [wp_ret]; imodintro
  subst hK; dsimp only
  -- part 13
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part13_eq_skeleton]; unfold k0_part13_skel
  simp only [semSignalWord, semWaitWord, Prog.lift, Prog.bind_op, Prog.bind_ret, Prog.pure_eq_ret, wp_deviceId]
  rw [wp_ret]; imodintro
  subst hK; dsimp only
  -- part 14
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part14_eq_skeleton]; unfold k0_part14_skel
  simp only [semSignalWord, semWaitWord, Prog.lift, Prog.bind_op, Prog.bind_ret, Prog.pure_eq_ret, wp_deviceId]
  iapply (wp_load_row m 3 0 0 rfl) $$ Hs3; iintro Hs3
  rw [wp_ret]; imodintro
  subst hK; dsimp only
  -- part 15
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part15_eq_skeleton]; unfold k0_part15_skel
  simp only [semSignalWord, semWaitWord, Prog.lift, Prog.bind_op, Prog.bind_ret, Prog.pure_eq_ret, wp_deviceId]
  iapply (wp_load_row m 3 0 1 rfl) $$ Hs3; iintro Hs3
  rw [wp_ret]; imodintro
  subst hK; dsimp only
  -- part 16
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part16_eq_skeleton]; unfold k0_part16_skel
  simp only [semSignalWord, semWaitWord, Prog.lift, Prog.bind_op, Prog.bind_ret, Prog.pure_eq_ret, wp_deviceId]
  iapply (wp_arrived m 1 K rfl rfl) $$ [HO HcR1 HaR1]
  · isplitr; · iexact HR
    isplitl [HcR1]; · iexact HcR1
    isplitl [HO] <;> iassumption
  iintro ⟨HO, HzR1, Hs2⟩
  ihave Hs2 := (Entails.of_eq (show slotPts c (Fin.succ 1) fullShare (kvAll m c) = slotPts c 2 fullShare (kvAll m c) from rfl)) $$ Hs2
  rw [wp_ret]; imodintro
  subst hK; dsimp only
  -- part 17
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part17_eq_skeleton]; unfold k0_part17_skel
  simp only [semSignalWord, semWaitWord, Prog.lift, Prog.bind_op, Prog.bind_ret, Prog.pure_eq_ret, wp_deviceId]
  iapply (wp_load_row m 2 0 0 rfl) $$ Hs2; iintro Hs2
  rw [wp_ret]; imodintro
  subst hK; dsimp only
  -- part 18
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part18_eq_skeleton]; unfold k0_part18_skel
  simp only [semSignalWord, semWaitWord, Prog.lift, Prog.bind_op, Prog.bind_ret, Prog.pure_eq_ret, wp_deviceId]
  iapply (wp_load_row m 2 0 1 rfl) $$ Hs2; iintro Hs2
  rw [wp_ret]; imodintro
  subst hK; dsimp only
  -- part 19
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part19_eq_skeleton]; unfold k0_part19_skel
  simp only [semSignalWord, semWaitWord, Prog.lift, Prog.bind_op, Prog.bind_ret, Prog.pure_eq_ret, wp_deviceId]
  iapply (wp_load_row m 0 1 0 rfl) $$ Hs0; iintro Hs0
  iapply (wp_load_row m 1 1 0 rfl) $$ Hs1; iintro Hs1
  iapply (wp_load_row m 2 1 0 rfl) $$ Hs2; iintro Hs2
  iapply (wp_load_row m 3 1 0 rfl) $$ Hs3; iintro Hs3
  rw [wp_ret]; imodintro
  subst hK; dsimp only
  -- part 20
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part20_eq_skeleton]; unfold k0_part20_skel
  simp only [semSignalWord, semWaitWord, Prog.lift, Prog.bind_op, Prog.bind_ret, Prog.pure_eq_ret, wp_deviceId]
  iapply (wp_load_row m 0 1 0 rfl) $$ Hs0; iintro Hs0
  iapply (wp_load_row m 1 1 0 rfl) $$ Hs1; iintro Hs1
  iapply (wp_load_row m 2 1 0 rfl) $$ Hs2; iintro Hs2
  iapply (wp_load_row m 3 1 0 rfl) $$ Hs3; iintro Hs3
  rw [wp_ret]; imodintro
  subst hK; dsimp only
  -- part 21
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part21_eq_skeleton]; unfold k0_part21_skel
  simp only [semSignalWord, semWaitWord, Prog.lift, Prog.bind_op, Prog.bind_ret, Prog.pure_eq_ret, wp_deviceId]
  iapply (wp_load_row m 0 1 0 rfl) $$ Hs0; iintro Hs0
  iapply (wp_load_row m 1 1 0 rfl) $$ Hs1; iintro Hs1
  iapply (wp_load_row m 2 1 0 rfl) $$ Hs2; iintro Hs2
  iapply (wp_load_row m 3 1 0 rfl) $$ Hs3; iintro Hs3
  iapply (wp_load_row m 0 1 0 rfl) $$ Hs0; iintro Hs0
  iapply (wp_load_row m 1 1 0 rfl) $$ Hs1; iintro Hs1
  rw [wp_ret]; imodintro
  subst hK; dsimp only
  -- part 22
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part22_eq_skeleton]; unfold k0_part22_skel
  simp only [semSignalWord, semWaitWord, Prog.lift, Prog.bind_op, Prog.bind_ret, Prog.pure_eq_ret, wp_deviceId]
  iapply (wp_load_row m 2 1 0 rfl) $$ Hs2; iintro Hs2
  iapply (wp_load_row m 3 1 0 rfl) $$ Hs3; iintro Hs3
  iapply (wp_load_eq (read_o _)) $$ Ho; iintro Ho
  iapply (wp_load_eq (c := c) (M := outM) (r := (entryRect 0).toLoadRect) rfl) $$ Hout; iintro Hout
  iapply (wp_store_on (M := outM) (r := entryRect 0) (w := outEntry m c 0) (Finset.subset_univ _)) $$ Hout; iintro Hout
  iapply (wp_load_row m 0 1 1 rfl) $$ Hs0; iintro Hs0
  iapply (wp_load_row m 1 1 1 rfl) $$ Hs1; iintro Hs1
  rw [wp_ret]; imodintro
  subst hK; dsimp only
  -- part 23
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part23_eq_skeleton]; unfold k0_part23_skel
  simp only [semSignalWord, semWaitWord, Prog.lift, Prog.bind_op, Prog.bind_ret, Prog.pure_eq_ret, wp_deviceId]
  iapply (wp_load_row m 2 1 1 rfl) $$ Hs2; iintro Hs2
  iapply (wp_load_row m 3 1 1 rfl) $$ Hs3; iintro Hs3
  iapply (wp_load_row m 0 1 1 rfl) $$ Hs0; iintro Hs0
  iapply (wp_load_row m 1 1 1 rfl) $$ Hs1; iintro Hs1
  iapply (wp_load_row m 2 1 1 rfl) $$ Hs2; iintro Hs2
  rw [wp_ret]; imodintro
  subst hK; dsimp only
  -- part 24
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part24_eq_skeleton]; unfold k0_part24_skel
  simp only [semSignalWord, semWaitWord, Prog.lift, Prog.bind_op, Prog.bind_ret, Prog.pure_eq_ret, wp_deviceId]
  iapply (wp_load_row m 3 1 1 rfl) $$ Hs3; iintro Hs3
  iapply (wp_load_row m 0 1 1 rfl) $$ Hs0; iintro Hs0
  iapply (wp_load_row m 1 1 1 rfl) $$ Hs1; iintro Hs1
  iapply (wp_load_row m 2 1 1 rfl) $$ Hs2; iintro Hs2
  iapply (wp_load_row m 3 1 1 rfl) $$ Hs3; iintro Hs3
  rw [wp_ret]; imodintro
  subst hK; dsimp only
  -- part 25
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part25_eq_skeleton]; unfold k0_part25_skel
  simp only [semSignalWord, semWaitWord, Prog.lift, Prog.bind_op, Prog.bind_ret, Prog.pure_eq_ret, wp_deviceId]
  iapply (wp_load_row m 0 1 1 rfl) $$ Hs0; iintro Hs0
  iapply (wp_load_row m 1 1 1 rfl) $$ Hs1; iintro Hs1
  iapply (wp_load_row m 2 1 1 rfl) $$ Hs2; iintro Hs2
  iapply (wp_load_row m 3 1 1 rfl) $$ Hs3; iintro Hs3
  rw [wp_ret]; imodintro
  subst hK; dsimp only
  -- part 26
  rw [wp_bind]
  generalize hK : (fun a => wp frame (wpE (defs₀ (F := F)) 𝒱₀ (c : Thread nD τ) none) Set.univ (_ : Prog (TpuEff nD τ sig (Elt F) Λ₀ .tc) PUnit) Kt) = Kn
  rw [k0_part26_eq_skeleton]; unfold k0_part26_skel
  simp only [semSignalWord, semWaitWord, Prog.lift, Prog.bind_op, Prog.bind_ret, Prog.pure_eq_ret, wp_deviceId]
  iapply (wp_load_eq (read_o _)) $$ Ho; iintro Ho
  iapply (wp_load_eq (c := c) (M := outM) (r := (entryRect 1).toLoadRect) rfl) $$ Hout; iintro Hout
  iapply (wp_store_on (M := outM) (r := entryRect 1) (w := outEntry m c 1) (Finset.subset_univ _)) $$ Hout; iintro Hout
  iapply (wp_departed m 0 K rfl rfl) $$ [HO HcS0 HaS0]
  · isplitr; · iexact HR
    isplitl [HcS0]; · iexact HcS0
    isplitl [HO] <;> iassumption
  iintro ⟨HO, HzS0, Hl0⟩
  iapply (wp_departed m 1 K rfl rfl) $$ [HO HcS1 HaS1]
  · isplitr; · iexact HR
    isplitl [HcS1]; · iexact HcS1
    isplitl [HO] <;> iassumption
  iintro ⟨HO, HzS1, Hl1⟩
  rw [wp_ret]; imodintro
  subst hK; dsimp only
  simp only [Prog.lift, Prog.bind_op, Prog.bind_ret, Prog.pure_eq_ret]
  iapply (wp_departed m 2 K rfl rfl) $$ [HO HcS2 HaS2]
  · isplitr; · iexact HR
    isplitl [HcS2]; · iexact HcS2
    isplitl [HO] <;> iassumption
  iintro ⟨HO, HzS2, Hl2⟩
  rw [wp_ret]; imodintro
  iapply Hend
  unfold bodyPost Φ₁
  isplitl [Hl0 Hl1 Hl2 Hs0 Hs1 Hs2 Hs3 HzB HzS0 HzS1 HzS2 HzR0 HzR1 HzR2]
  · isplitl [Hl0 Hl1 Hl2 Hs0 Hs1 Hs2 Hs3]
    · iapply (Entails.of_eq (scr_slots c (kvAll m c)).symm)
      isplitl [Hl0 Hl1 Hl2 Hs0]
      · iapply ((slot0_shares c (kvAll m c)).2)
        isplitl [Hl0 Hl1]; · isplitl [Hl0] <;> iassumption
        isplitl [Hl2] <;> iassumption
      isplitl [Hs1]; · iexact Hs1
      isplitl [Hs2] <;> iassumption
    isplitl [HzB]; · iexact HzB
    isplitl [HzS0 HzS1 HzS2]
    · isplitl [HzS0]; · iexact HzS0
      isplitl [HzS1] <;> iassumption
    isplitl [HzR0]; · iexact HzR0
    isplitl [HzR1] <;> iassumption
  isplitl [HO]; · iexists _; iexact HO
  isplitl [Hx]; · iexact Hx
  isplitl [Hq]; · iexact Hq
  isplitl [Hk]; · iexact Hk
  isplitl [Hv]; · iexact Hv
  isplitl [Ho]; · iexact Ho
  ihave Hout := (Entails.of_eq (congrArg (stg c cc0_stg5_0) (out_written g0 (outEntry m c)))) $$ Hout
  iexact Hout

end Cert.Exchange
-- ==== Proof.Launch.lean ====
/-
The launch: the exchange's ghost state funded and dealt over the four devices, what each device is owed and owes, and the
run of the whole program on the mesh.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- A held staging buffer is its contents, whole; and back. -/
theorem owns_enter (c : Dev nD) (b : Ref sig .tc) (X : b.ty.Contents (Elt F)) :
    (owns (Ix := Unit) (Name := ℕ) (U := UU) (Lvl := ℕ) (c : Thread nD τ) (Memref.whole b) fullShare X : sProp 𝕄) ⊢ stg c b X := by
  unfold owns
  simp only [Memref.view_whole, View.read_whole, View.set_whole]
  iintro ⟨%f, %hf, H⟩
  subst hf
  iexact H
theorem owns_leave (c : Dev nD) (b : Ref sig .tc) (X : b.ty.Contents (Elt F)) :
    stg c b X ⊢ (owns (Ix := Unit) (Name := ℕ) (U := UU) (Lvl := ℕ) (c : Thread nD τ) (Memref.whole b) fullShare X : sProp 𝕄) := by
  unfold owns
  simp only [Memref.view_whole, View.read_whole, View.set_whole]
  iintro H
  iexists X
  isplitr; · (ipureintro; rfl)
  iexact H

/-! What the body finds in the inputs' staging buffers: their blocks. -/
theorem found_x (c : Dev nD) (d) : (dats m ρ 0 c).before (0 : Fin 6) t0_0 d = xstg m c := by
  unfold Dat.before; rw [if_pos (fetch0_0 t0_0)]; rfl
theorem found_q (c : Dev nD) (d) : (dats m ρ 0 c).before (1 : Fin 6) t0_0 d = qstg m c := by
  unfold Dat.before; rw [if_pos (fetch0_1 t0_0)]; rfl
theorem found_k (c : Dev nD) (d) : (dats m ρ 0 c).before (2 : Fin 6) t0_0 d = kstg m c := by
  unfold Dat.before; rw [if_pos (fetch0_2 t0_0)]; rfl
theorem found_v (c : Dev nD) (d) : (dats m ρ 0 c).before (3 : Fin 6) t0_0 d = vstg m c := by
  unfold Dat.before; rw [if_pos (fetch0_3 t0_0)]; rfl
theorem found_o (c : Dev nD) (d) : (dats m ρ 0 c).before (4 : Fin 6) t0_0 d = ostg m c := by
  unfold Dat.before; rw [if_pos (fetch0_4 t0_0)]; rfl

/-- The body's two sides as the launch states them. -/
def ownsPre (c : Dev nD) : sProp 𝕄 :=
  iprop(Φ₀ m c ∗ (dats m ρ 0 c).owesAt () t0_0.castSucc
    ∗ (∃ d, owns (Ix := Unit) (Name := ℕ) (U := UU) (Lvl := ℕ) (c : Thread nD τ) (Memref.whole cc0_stg0_0) fullShare ((dats m ρ 0 c).before (0 : Fin 6) t0_0 d))
    ∗ (∃ d, owns (Ix := Unit) (Name := ℕ) (U := UU) (Lvl := ℕ) (c : Thread nD τ) (Memref.whole cc0_stg1_0) fullShare ((dats m ρ 0 c).before (1 : Fin 6) t0_0 d))
    ∗ (∃ d, owns (Ix := Unit) (Name := ℕ) (U := UU) (Lvl := ℕ) (c : Thread nD τ) (Memref.whole cc0_stg2_0) fullShare ((dats m ρ 0 c).before (2 : Fin 6) t0_0 d))
    ∗ (∃ d, owns (Ix := Unit) (Name := ℕ) (U := UU) (Lvl := ℕ) (c : Thread nD τ) (Memref.whole cc0_stg3_0) fullShare ((dats m ρ 0 c).before (3 : Fin 6) t0_0 d))
    ∗ (∃ d, owns (Ix := Unit) (Name := ℕ) (U := UU) (Lvl := ℕ) (c : Thread nD τ) (Memref.whole cc0_stg4_0) fullShare ((dats m ρ 0 c).before (4 : Fin 6) t0_0 d))
    ∗ (∃ d, owns (Ix := Unit) (Name := ℕ) (U := UU) (Lvl := ℕ) (c : Thread nD τ) (Memref.whole cc0_stg5_0) fullShare ((dats m ρ 0 c).before (5 : Fin 6) t0_0 d)))
/-- What the body leaves: every semaphore back, the inputs' blocks unchanged, the result's block written. -/
def ownsPost (c : Dev nD) : sProp 𝕄 :=
  iprop(Φ₁ m c ∗ (dats m ρ 0 c).owesAt () t0_0.succ
    ∗ owns (Ix := Unit) (Name := ℕ) (U := UU) (Lvl := ℕ) (c : Thread nD τ) (Memref.whole cc0_stg0_0) fullShare (xstg m c)
    ∗ owns (Ix := Unit) (Name := ℕ) (U := UU) (Lvl := ℕ) (c : Thread nD τ) (Memref.whole cc0_stg1_0) fullShare (qstg m c)
    ∗ owns (Ix := Unit) (Name := ℕ) (U := UU) (Lvl := ℕ) (c : Thread nD τ) (Memref.whole cc0_stg2_0) fullShare (kstg m c)
    ∗ owns (Ix := Unit) (Name := ℕ) (U := UU) (Lvl := ℕ) (c : Thread nD τ) (Memref.whole cc0_stg3_0) fullShare (vstg m c)
    ∗ owns (Ix := Unit) (Name := ℕ) (U := UU) (Lvl := ℕ) (c : Thread nD τ) (Memref.whole cc0_stg4_0) fullShare (ostg m c)
    ∗ owns (Ix := Unit) (Name := ℕ) (U := UU) (Lvl := ℕ) (c : Thread nD τ) (Memref.whole cc0_stg5_0) fullShare (outAt m c))

set_option maxRecDepth 8000 in
/-- The body meets its obligation. -/
theorem body_obligation (c : Dev nD) : BodyObligation (dats (F := F) m ρ 0 c) (defs₀ (F := F)) 𝒱₀ () Set.univ := fun t => by
  rw [fin_N0 t, bigSep_W0, bigSep_W0]
  show ownsPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2) (fun _ => ownsPost m ρ c)
  unfold ownsPre Φ₀ start Dat.owesAt Pipeline.owesWithin
  rw [show (dats m ρ 0 c).owed t0_0.castSucc = O₀ c from rfl]
  simp only [found_x, found_q, found_k, found_v, found_o]
  iintro ⟨⟨⟨⟨%K, Hg⟩, H1, H2, H3⟩, Hscr⟩, ⟨%W, -, HO⟩, ⟨%_, Hx⟩, ⟨%_, Hq⟩, ⟨%_, Hk⟩, ⟨%_, Hv⟩, ⟨%_, Ho⟩, ⟨%d, Hout⟩⟩
  iapply (sound_body m c K W fun _ => ownsPost m ρ c)
  unfold bodyPre
  isplitl
  · isplitl [Hg]; · iexact Hg
    isplitl [H1]; · iexact H1
    isplitl [H2]; · iexact H2
    isplitl [H3]; · iexact H3
    isplitl [Hscr]; · iexact Hscr
    isplitl [HO]; · iexact HO
    isplitl [Hx]; · iapply (owns_enter c cc0_stg0_0 (xstg m c)); iexact Hx
    isplitl [Hq]; · iapply (owns_enter c cc0_stg1_0 (qstg m c)); iexact Hq
    isplitl [Hk]; · iapply (owns_enter c cc0_stg2_0 (kstg m c)); iexact Hk
    isplitl [Hv]; · iapply (owns_enter c cc0_stg3_0 (vstg m c)); iexact Hv
    isplitl [Ho]; · iapply (owns_enter c cc0_stg4_0 (ostg m c)); iexact Ho
    iexists _
    iapply (owns_enter c cc0_stg5_0 _); iexact Hout
  unfold bodyPost ownsPost Dat.owesAt Pipeline.owesWithin
  rw [show (dats m ρ 0 c).owed t0_0.succ = 0 from rfl]
  iintro ⟨HΦ, ⟨%W', HO⟩, Hx, Hq, Hk, Hv, Ho, Hout⟩
  isplitl [HΦ]; · iexact HΦ
  isplitl [HO]
  · iexists W'
    isplitr; · ipureintro; exact fun _ _ => Or.inl trivial
    iexact HO
  isplitl [Hx]; · iapply (owns_leave c cc0_stg0_0 (xstg m c)); iexact Hx
  isplitl [Hq]; · iapply (owns_leave c cc0_stg1_0 (qstg m c)); iexact Hq
  isplitl [Hk]; · iapply (owns_leave c cc0_stg2_0 (kstg m c)); iexact Hk
  isplitl [Hv]; · iapply (owns_leave c cc0_stg3_0 (vstg m c)); iexact Hv
  isplitl [Ho]; · iapply (owns_leave c cc0_stg4_0 (ostg m c)); iexact Ho
  iapply (owns_leave c cc0_stg5_0 (outAt m c)); iexact Hout

/-! ## The ghost state of the seven semaphores of each device -/

/-- The six semaphores of the kernel's own. -/
abbrev osem : Fin 6 → SemLoc sig := fun j => csem j.succ
/-- The kernel's own semaphores are none of the pipeline's. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- The seven semaphores are different ones. -/
theorem csem_injective : Function.Injective csem := by
  intro j j' h
  by_contra hn
  revert h
  revert hn
  revert j j'
  decide

/-- So are those of different devices. -/
theorem kcell_injective : Function.Injective (kcell : Dev nD × Fin 7 → GSem nD τ sig) := fun a b h =>
  Prod.ext (congrArg (fun g : GSem nD τ sig => g.1.1) h) (csem_injective (congrArg Prod.snd h))

/-- The semaphores of all devices. -/
def cells : Finset (GSem nD τ sig) := Finset.univ.map ⟨kcell, kcell_injective⟩

/-- The duties of device `c`'s own semaphores, step by step: its barrier's, its receive's, its send's. -/
abbrev dutyOf (x : Dev nD × Fin 3 × Fin 3) : GSem nD τ sig × ℕ × Fin 3 := match x.2.1 with
  | 0 => (barCell x.1, 0, x.2.2) | 1 => (rcvCell x.2.2 x.1, 0, 0) | 2 => (sndCell x.2.2 x.1, 0, 0)

/-- No duty is listed twice. -/
theorem dutyOf_injective : Function.Injective dutyOf := by
  rintro ⟨c, a, k⟩ ⟨c', a', k'⟩ h
  have h1 : c = c' := by
    have h' := congrArg (fun x : GSem nD τ sig × ℕ × Fin 3 => x.1.1.1) h
    fin_cases a <;> fin_cases a' <;> exact h'
  subst h1
  have h2 : (a, k) = (a', k') := by
    have h' := congrArg (fun x : GSem nD τ sig × ℕ × Fin 3 => (x.1.2, x.2.2)) h
    have e : ∀ (a : Fin 3) (k : Fin 3), (dutyOf (c, a, k)).1.2 = (match a with | 0 => .reg barS | 1 => .dma (rcvS k) | 2 => .dma (sndS k) : SemLoc sig) := by
      intro a k; fin_cases a <;> rfl
    have e' : ∀ (a : Fin 3) (k : Fin 3), (dutyOf (c, a, k)).2.2 = (match a with | 0 => k | 1 => 0 | 2 => 0 : Fin 3) := by
      intro a k; fin_cases a <;> rfl
    rw [Prod.mk.injEq, e, e, e', e'] at h'
    clear h e e'
    revert a k a' k'
    decide
  rw [Prod.mk.injEq] at h2
  rw [h2.1, h2.2]

/-- The duties of all devices. -/
def dutySet : Finset (GSem nD τ sig × ℕ × Fin 3) := Finset.univ.map ⟨dutyOf, dutyOf_injective⟩

/-- The launch element: the pipeline's part and the exchange's. -/
def u₀ : UU := (initOf (Pipeline.cells cfgs cellOf_inj) (Pipeline.launchToks cfgs cellOf_inj), initOf cells dutySet)

/-- The tokens of the duties of device `c`'s own semaphores. -/
def ownToks (c : Dev nD) : sProp 𝕄 :=
  iprop((bigSep Finset.univ fun k : Fin 3 => dutyTok EX (barCell c) 0 k)
    ∗ (bigSep Finset.univ fun k : Fin 3 => dutyTok EX (rcvCell k c) 0 0)
    ∗ bigSep Finset.univ fun k : Fin 3 => dutyTok EX (sndCell k c) 0 0)

/-- What the launch element deals device `c`. -/
def G (c : Dev nD) : sProp 𝕄 :=
  iprop((bigSep Finset.univ fun j : Fin 7 => roundState EX (sched m) (kcell (c, j)) 0)
    ∗ (bigSep Finset.univ fun j : Fin 7 => iprop(atPos EX (kcell (c, j)) 0 ∅ 0 ∗ reached EX (kcell (c, j)) 0)) ∗ ownToks c)

/-- What device `c` holds of it once the invariants are allocated. -/
def G' (c : Dev nD) : sProp 𝕄 := iprop(∃ K, ghost m K c)

/-- The exchange's launch element funds every device's part. -/
theorem fund : BI.own (EX (initOf cells dutySet)) ⊢ (|==> bigSep Finset.univ (G m) : sProp 𝕄) := by
  have hC (Φ : GSem nD τ sig → sProp 𝕄) : bigSep cells Φ = bigSep Finset.univ fun c : Dev nD => bigSep Finset.univ fun j : Fin 7 => Φ (kcell (c, j)) := by
    unfold cells; rw [bigSep_map, bigSep_univ_prod]; rfl
  have hT : bigSep dutySet (fun x => (dutyTok EX x.1 x.2.1 x.2.2 : sProp 𝕄)) = bigSep Finset.univ fun c : Dev nD => ownToks c := by
    unfold dutySet; rw [bigSep_map, bigSep_univ_prod]
    refine bigSep_congr fun c _ => ?_
    rw [bigSep_univ_prod, bigSep_three]; rfl
  iintro HX
  imod (Rounds.fund EX (sched m) cells dutySet) $$ HX with ⟨Hst, Hr, Hat, Htok⟩
  imodintro
  ihave Hst' := (Entails.of_eq (hC fun g => roundState EX (sched m) g 0)) $$ Hst
  ihave Hat' := (Entails.of_eq (hC fun g => atPos EX g 0 ∅ 0)) $$ Hat
  ihave Hr' := (Entails.of_eq (hC fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A conjunction over seven indices, written out. -/
theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (sndCell 0 c) 0 ∗ semVal (sndCell 1 c) 0 ∗ semVal (sndCell 2 c) 0
        ∗ semVal (rcvCell 0 c) 0 ∗ semVal (rcvCell 1 c) 0 ∗ semVal (rcvCell 2 c) 0) := by
  rw [Pipeline.ownSems0_eq_of_list c osem [0, 1, 2, 3, 4, 5] (by decide) (by decide)]; rfl

/-- The one semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the seven semaphores of the exchange. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 7 => semVal (kcell (c, j)) 0 : sProp 𝕄) := by
  rw [ownSems0_eq, unscopedSems0_eq, bigSep_seven]
  iintro ⟨H, HB⟩
  isplitl [HB]; · iexact HB
  iexact H

/-- The seven invariants of device `c` are allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv EX (sched m) κ (kcell (c, j))))
          ∗ (bigSep Finset.univ fun j => iprop(atPos EX (kcell (c, j)) 0 ∅ 0 ∗ reached EX (kcell (c, j)) 0)) ∗ ownToks c) := by
  have halloc : iprop((bigSep Finset.univ fun j : Fin 7 => semVal (kcell (c, j)) 0) ∗ bigSep Finset.univ fun j : Fin 7 => roundState EX (sched m) (kcell (c, j)) 0)
      ⊢ (|={Set.univ}=> bigSep Finset.univ fun j => iprop(∃ κ : ℕ, cellInv EX (sched m) κ (kcell (c, j))) : sProp 𝕄) := by
    rw [← bigSep_sep']
    exact (bigSep_mono fun j _ => (Rounds.body_intro EX (sched m) (kcell (c, j))).trans inv_alloc).trans (bigSep_fupd _ _)
  unfold G
  iintro ⟨Hos, Hus, Hst, Hat, Htok⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

/-- The tokens dealt around the mesh: each goes to the device that pays that duty. -/
theorem toks_dealt : (bigSep Finset.univ fun c : Dev nD => (ownToks c : sProp 𝕄)) = bigSep Finset.univ fun c : Dev nD => payToks c := by
  have hB : (bigSep Finset.univ fun c : Dev nD => bigSep Finset.univ fun k : Fin 3 => (dutyTok EX (barCell c) 0 k : sProp 𝕄))
      = bigSep Finset.univ fun c : Dev nD => bigSep Finset.univ fun k : Fin 3 => dutyTok EX (barCell (up k c)) 0 k := by
    rw [bigSep_univ_comm, bigSep_univ_comm (Φ := fun (c : Dev nD) (k : Fin 3) => dutyTok EX (barCell (up k c)) 0 k)]
    exact bigSep_congr fun k _ => bigSep_univ_equiv (turn k) _
  have hR : (bigSep Finset.univ fun c : Dev nD => bigSep Finset.univ fun k : Fin 3 => (dutyTok EX (rcvCell k c) 0 0 : sProp 𝕄))
      = bigSep Finset.univ fun c : Dev nD => bigSep Finset.univ fun k : Fin 3 => dutyTok EX (rcvCell k (up k c)) 0 0 := by
    rw [bigSep_univ_comm, bigSep_univ_comm (Φ := fun (c : Dev nD) (k : Fin 3) => dutyTok EX (rcvCell k (up k c)) 0 0)]
    exact bigSep_congr fun k _ => bigSep_univ_equiv (turn k) _
  unfold ownToks payToks
  simp only [bigSep_sep']
  rw [hB, hR]

/-- The positions of device `c`, semaphore by semaphore. -/
theorem linear_intro (c : Dev nD) :
    iprop((bigSep Finset.univ fun j : Fin 7 => (atPos EX (kcell (c, j)) 0 ∅ 0 : sProp 𝕄)) ∗ payToks c) ⊢ linear c := by
  unfold linear
  rw [bigSep_seven, bigSep_three, bigSep_three]
  iintro ⟨⟨HB, HS0, HS1, HS2, HR⟩, Ht⟩
  isplitl [HB HS0 HS1 HS2 HR]
  · isplitl [HB]; · iexact HB
    isplitl [HS0 HS1 HS2]
    · isplitl [HS0]; · iexact HS0
      isplitl [HS1]; · iexact HS1
      iexact HS2
    iexact HR
  iexact Ht

/-- The shared facts and a device's own part make up its ghost state. -/
theorem ghost_intro (K : Dev nD × Fin 7 → ℕ) (c : Dev nD) : iprop(records m K ∗ linear c) ⊢ G' m c := by
  unfold G' ghost
  iintro H
  iexists K
  iexact H

/-- The devices' invariants, positions and tokens, dealt to the devices that use them. -/
theorem regroup :
    (bigSep Finset.univ fun c : Dev nD => iprop((bigSep Finset.univ fun j => iprop(∃ κ : ℕ, cellInv EX (sched m) κ (kcell (c, j))))
          ∗ (bigSep Finset.univ fun j => iprop(atPos EX (kcell (c, j)) 0 ∅ 0 ∗ reached EX (kcell (c, j)) 0)) ∗ ownToks c) : sProp 𝕄)
      ⊢ bigSep Finset.univ (G' m) := by
  rw [bigSep_sep', bigSep_sep', ← bigSep_univ_prod (fun ck : Dev nD × Fin 7 => iprop(∃ κ : ℕ, cellInv EX (sched m) κ (kcell ck))),
    bigSep_congr (s := Finset.univ) (fun (c : Dev nD) _ => bigSep_sep' Finset.univ (fun j : Fin 7 => (atPos EX (kcell (c, j)) 0 ∅ 0 : sProp 𝕄)) (fun j => reached EX (kcell (c, j)) 0)),
    bigSep_sep', ← bigSep_univ_prod (fun ck : Dev nD × Fin 7 => (reached EX (kcell ck) 0 : sProp 𝕄)), toks_dealt]
  iintro ⟨HI, ⟨Hat, #HR⟩, Htok⟩
  ihave HK := (BI.bigSep_exists_pi Finset.univ (fun (ck : Dev nD × Fin 7) (κ : ℕ) => (cellInv EX (sched m) κ (kcell ck) : sProp 𝕄))) $$ HI
  icases HK with ⟨%K, #HI⟩
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 7 => (atPos EX (kcell (c, j)) 0 ∅ 0 : sProp 𝕄)) payToks).symm).trans
      (bigSep_mono fun c _ => linear_intro c))
    isplitl [Hat]; · iexact Hat
    iexact Htok

/-- All devices' semaphores become the exchange's ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is owed at launch -/

/-- Step `k` of `d` addresses `c` exactly if `d` is what the complementary step of `c` addresses. -/
theorem up_eq_iff (k : Fin 3) (d c : Dev nD) : up k d = c ↔ d = up k.rev c :=
  ⟨fun h => by rw [← h, up_rev_up], fun h => by rw [h, up_up_rev]⟩

/-- A tally at one semaphore, read at another. -/
theorem tally_at (g g' : GSem nD τ sig) (n : ℕ) : tallyAt g' () n g () = if g = g' then n else 0 := by
  rw [tallyAt_apply]
  by_cases h : g = g'
  · rw [if_pos ⟨h, rfl⟩, if_pos h]
  · rw [if_neg fun h' => h h'.1, if_neg h]

/-- Different devices have different barriers. -/
theorem bar_iff {a b : Dev nD} : barCell a = barCell b ↔ b = a :=
  ⟨fun h => (congrArg (fun g : GSem nD τ sig => g.1.1) h).symm, fun h => h ▸ rfl⟩
/-- Different steps and devices have different receive semaphores. -/
theorem rcv_iff {k k' : Fin 3} {a b : Dev nD} : rcvCell k a = rcvCell k' b ↔ k = k' ∧ b = a :=
  ⟨fun h => ⟨by
      have h' : rcvS k = rcvS k' := SemLoc.dma.inj (congrArg Prod.snd h)
      have := congrArg Fin.val h'
      exact Fin.ext (Nat.add_left_cancel this), (congrArg (fun g : GSem nD τ sig => g.1.1) h).symm⟩, fun h => by rw [h.1, h.2]⟩
/-- A barrier is no receive semaphore. -/
theorem bar_ne_rcv (k : Fin 3) (a b : Dev nD) : barCell a ≠ rcvCell k b := fun h => by cases congrArg Prod.snd h

/-- What device `d` owes the barrier of `c`: a unit for each step that addresses it. -/
theorem owed_bar (d c : Dev nD) : O₀ d (barCell c) ()
    = (if d = up (Fin.rev 2) c then 1 else 0) + (if d = up (Fin.rev 1) c then 1 else 0) + (if d = up (Fin.rev 0) c then 1 else 0) := by
  unfold O₀ OR
  simp only [Pi.add_apply, Finsupp.add_apply, tally_at, bar_iff, up_eq_iff, if_neg (bar_ne_rcv _ _ _), Nat.zero_add]

/-- What device `d` owes the receive semaphore of step `k` of `c`: a slot's credit if that step addresses it. -/
theorem owed_rcv (k : Fin 3) (d c : Dev nD) : O₀ d (rcvCell k c) () = if d = up k.rev c then N else 0 := by
  unfold O₀ OR
  simp only [Pi.add_apply, Finsupp.add_apply, tally_at, rcv_iff, up_eq_iff, if_neg (bar_ne_rcv _ _ _).symm, Nat.add_zero]
  fin_cases k <;> simp

/-- All devices together owe each barrier three units. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

/-- And each receive semaphore one slot's credit. -/
theorem launch_rcv (k : Fin 3) (c : Dev nD) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv k d c, Finset.sum_ite_eq' Finset.univ (up k.rev c) fun _ => N,
    if_pos (Finset.mem_univ _)]

/-- Device `c`'s credit at launch: its barrier's three units and its three receives' credits. -/
theorem creds (c : Dev nD) :
    (Pipeline.launchCred O₀ c : sProp 𝕄) ⊢ iprop(cred (tallyAt (barCell c) () 3) ∗ bigSep Finset.univ fun k : Fin 3 => cred (tallyAt (rcvCell k c) () N)) := by
  unfold Pipeline.launchCred
  rw [bigSep_univ_at _ (SemLoc.reg barS), launch_bar]
  refine sep_mono_right ?_
  have hinj : Function.Injective (fun k : Fin 3 => (SemLoc.dma (rcvS k) : SemLoc sig)) := fun k k' h =>
    (rcv_iff (k := k) (k' := k') (a := c) (b := c)).mp (Prod.ext rfl h) |>.1
  have hsub : (Finset.univ : Finset (Fin 3)).map ⟨_, hinj⟩ ⊆ (Finset.univ : Finset (SemLoc sig)).erase (SemLoc.reg barS) := by
    intro s hs
    obtain ⟨k, -, rfl⟩ := Finset.mem_map.mp hs
    exact Finset.mem_erase.mpr ⟨(fun h => by cases h), Finset.mem_univ _⟩
  rw [← bigSep_congr (s := Finset.univ) fun k _ => congrArg cred (launch_rcv k c)]
  refine BIBase.Entails.trans ?_ (Entails.of_eq (bigSep_map ⟨_, hinj⟩ (s := Finset.univ) (Φ := fun sm : SemLoc sig => (cred (tallyOn ((c : Thread nD τ), sm) (launchCredit (Pipeline.owing O₀) 0 ((c : Thread nD τ), sm))) : sProp 𝕄))))
  exact bigSep_subset hsub

/-! ## The run -/

/-- What a device's body starts from, out of what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the scratch buffer it is the first state of the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, Hr⟩
  isplitl [Hs]; · iexact Hs
  iexact Hr

/-- The last state of the body gives the semaphores back at zero, and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scrPts
  iintro ⟨Hr, HzB, ⟨H0, H1, H2⟩, HzR⟩
  isplitl [HzB]; · iexact HzB
  isplitl [H0 H1 H2 HzR]
  · isplitl [H0]; · iexact H0
    isplitl [H1]; · iexact H1
    isplitl [H2]; · iexact H2
    iexact HzR
  iexists (kvAll m c); iexact Hr

/-- The pipeline's own waits are allowed: its semaphores stand below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The window's array of device `c` after the run. -/
def finalA (c : Dev nD) (w : Fin cfg0.W) : Buf (Elt F) ((cfg0.win w).arr.view.loc (c : Thread nD τ)) := (dats m ρ 0 c).arrAt w cfg0.N

/-- Every window's array ends at its final contents. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values, from any memory with the semaphores at zero: every fair execution
    of the program ends, every window's array at its final contents and every semaphore back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds after the run what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Cert.Exchange

end
-- ==== Proof.Frames.lean ====
/-
The arguments of the kernel's program, read again after the run: the frame of the program over the extended reals, and of the
same program over the machine's bits.
-/
module

public import proofs.«01_k».proof.Proof.Launch
public import proofs.«01_k».proof.Defs
public import Idealize.ShloMosaic.Lib.StableHlo.RunHlo
public import proofs.«01_k».proof.Proof.Gen.Kernel

@[expose] public section

noncomputable section

namespace Cert.Exchange

open Idealize.ShloMosaic Idealize.ShloMosaic.TcCoe Idealize.SL.Sem

section
open Cert.KernelIdeal Cert.KernelIdeal.Gen

variable {F : FTy → Type} [FloatOps F]

/-- The run, its end told of the named arrays: each argument as it was, the result's array the result window's last
    contents, and every semaphore at zero. -/
theorem run_named (m : (ℓ : Loc nD τ sig) → Buf (Elt F) ℓ) (ρ : Dev nD → PrngReg) :
    θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = finalA m ρ c (5 : Fin 6))
      ∧ r.2.sem = fun _ => 0) :=
  θ_run_mono (run_main m ρ) fun r hr => ⟨fun c =>
    ⟨(hr.1 c (0 : Fin 6)).trans (finalA_in m ρ c (0 : Fin 6) rfl), (hr.1 c (1 : Fin 6)).trans (finalA_in m ρ c (1 : Fin 6) rfl),
     (hr.1 c (2 : Fin 6)).trans (finalA_in m ρ c (2 : Fin 6) rfl), (hr.1 c (3 : Fin 6)).trans (finalA_in m ρ c (3 : Fin 6) rfl),
     (hr.1 c (4 : Fin 6)).trans (finalA_in m ρ c (4 : Fin 6) rfl), hr.1 c (5 : Fin 6)⟩, hr.2⟩

end

section
variable {F : FTy → Type} [FloatOps F]

/-- The program printed for the machine and the one printed for the extended reals have one table of kernel bodies. -/
theorem bodies_eq : Cert.Kernel.defs₀ (F := F) = Cert.KernelIdeal.defs₀ (F := F) :=
  congrArg Defs.onTc (by
    funext l x
    match l, x with
    | 0, (t, s) => rfl)

/-- The kernel and its ideal instance have the same bodies throughout. -/
theorem tables_eq : Cert.Kernel.defs (F := F) = Cert.KernelIdeal.defs (F := F) :=
  congrArg (Pipeline.defs (Cert.KernelIdeal.pcfgs (F := F))) bodies_eq

end

/-- The ideal kernel terminates with its arguments unchanged and every semaphore at zero. -/
theorem frame_kernelIdeal : quiescent_KernelIdeal (hKernelIdeal := Cert.KernelIdeal.Gen.facts) := fun m g _ =>
  θ_run_mono (run_named (F := Ideal) m g) fun _ h => ⟨fun c =>
    ⟨(h.1 c).1, (h.1 c).2.1, (h.1 c).2.2.1, (h.1 c).2.2.2.1, (h.1 c).2.2.2.2.1⟩, h.2⟩

/-- So does the kernel over float words. -/
theorem frame_kernel : quiescent_Kernel (hKernel := Cert.Kernel.Gen.facts) := fun m g _ => by
  have h := run_named (F := Bits) m g
  rw [← tables_eq] at h
  exact θ_run_mono h fun _ h => ⟨fun c =>
    ⟨(h.1 c).1, (h.1 c).2.1, (h.1 c).2.2.1, (h.1 c).2.2.2.1, (h.1 c).2.2.2.2.1⟩, h.2⟩

end Cert.Exchange

end
-- ==== Proof.FinalArray.lean ====
/-
The arrays around the launch: what a device finds in its staging buffers is its argument arrays, and what its result array
ends with is what it writes.
-/
module

public import proofs.«01_k».proof.Proof.Launch
public import Idealize.ShloMosaic.Lib.Pipeline.ValueKit

@[expose] public section

set_option maxRecDepth 16384

noncomputable section

namespace Cert.Exchange

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem xstg_at (c : Dev nD) (y : S2x128x512.Idx) : xstg m c y = m ((c : Thread nD τ).loc main_arg0) y := by
  unfold xstg
  blk_ext [Pipeline.Window.index]
theorem qstg_at (c : Dev nD) (y : S512x256.Idx) : qstg m c y = m ((c : Thread nD τ).loc main_arg1) y := by
  unfold qstg
  blk_ext [Pipeline.Window.index]
theorem kstg_at (c : Dev nD) (y : S2x128x4x64.Idx) : kstg m c y = m ((c : Thread nD τ).loc main_arg2) y := by
  unfold kstg
  blk_ext [Pipeline.Window.index]
theorem vstg_at (c : Dev nD) (y : S2x128x4x64.Idx) : vstg m c y = m ((c : Thread nD τ).loc main_arg3) y := by
  unfold vstg
  blk_ext [Pipeline.Window.index]
theorem ostg_at (c : Dev nD) (y : S256x512.Idx) : ostg m c y = m ((c : Thread nD τ).loc main_arg4) y := by
  unfold ostg
  blk_ext [Pipeline.Window.index]

/-- The result's array ends with what the device writes. -/
theorem finalA_out (c : Dev nD) (y : S2x128x512.Idx) : finalA m ρ c (5 : Fin 6) y = outAt m c y := by
  refine congrFun (?_ : finalA m ρ c (5 : Fin 6) = outAt m c) y
  refine (dats m ρ 0 c).arrAt_eq_of_after_last (5 : Fin 6) t0_0 (by decide +kernel) _ fun j => ?_
  blk_simp
  rfl

end Cert.Exchange

end
-- ==== Proof.Attention.lean ====
/-
Masked attention over the extended reals, away from any program: the mask by block numbers, a masked score, one query's
weighted sum of the values, and that the order in which the keys stand does not matter to it.
-/
module

public import proofs.«01_k».proof.Proof.Protocol
public import Idealize.ShloMosaic.Lib.Pointwise

@[expose] public section

noncomputable section

namespace Cert.Attention

open Idealize.ShloMosaic

/-- Whether queries of block `a` may look at keys of block `b`: the same block, the first block, or a sum divisible by three. -/
def allowed (a b : ℕ) : BitVec 1 := BitVec.ofBool (decide (a = b ∨ b = 0 ∨ (a + b) % 3 = 0))

/-- A score: the product of query and key scaled by an eighth where the mask allows it, minus a thousand million elsewhere. -/
def score (bit : BitVec 1) (p : EReal) : EReal :=
  Scalar.select bit (p * Ideal.ofBits .f32 0x3E000000#32) (Ideal.ofBits .f32 0xCE6E6B28#32)

/-- A row's largest score. -/
def top {n : ℕ} (s : Fin n → EReal) : EReal := Finset.univ.fold max (Ideal.ofBits .f32 0xFF800000#32) s

/-- A score's exponential, shifted by the row's largest. -/
def shifted {n : ℕ} (s : Fin n → EReal) (j : Fin n) : EReal := Ideal.exp (s j - top s)

/-- One query's result: the values weighted by the softmax of its scores. -/
def attend {n : ℕ} (s v : Fin n → EReal) : EReal := ∑ j, Ideal.div (shifted s j) (∑ k, shifted s k) * v j

/-- The largest score does not depend on the order of the keys. -/
theorem top_perm {n : ℕ} (σ : Fin n ≃ Fin n) (s : Fin n → EReal) : top (fun j => s (σ j)) = top s := by
  unfold top
  conv_rhs => rw [← Finset.map_univ_equiv σ, Finset.fold_map]
  rfl

/-- Nor does a shifted exponential. -/
theorem shifted_perm {n : ℕ} (σ : Fin n ≃ Fin n) (s : Fin n → EReal) (j : Fin n) : shifted (fun j => s (σ j)) j = shifted s (σ j) := by
  unfold shifted; rw [top_perm]

/-- The keys may be taken in any order. -/
theorem attend_perm {n : ℕ} (σ : Fin n ≃ Fin n) (s v : Fin n → EReal) : attend (fun j => s (σ j)) (fun j => v (σ j)) = attend s v := by
  unfold attend
  rw [← Equiv.sum_comp σ (fun j => Ideal.div (shifted s j) (∑ k, shifted s k) * v j), ← Equiv.sum_comp σ (shifted s)]
  exact Finset.sum_congr rfl fun j _ => by simp only [shifted_perm]

/-- A fold of bits by «or» over a set one of whose bits is set. -/
theorem or_all {n : ℕ} (p : Fin n → BitVec 1) (x : Fin n) (h : p x = 1#1) : Finset.univ.fold IntOp.ori (0#1) p = 1#1 := by
  rw [← Finset.insert_erase (Finset.mem_univ x), Finset.fold_insert (Finset.notMem_erase x _), h]
  generalize Finset.fold IntOp.ori (0#1) p _ = y
  revert y; decide

/-- Every query may look at the first block. -/
theorem allowed_first (a : ℕ) : allowed a 0 = 1#1 := by
  unfold allowed
  rw [decide_eq_true (Or.inr (Or.inl rfl))]; rfl

/-! ## Four pieces along an axis -/

/-- A ladder of tests over four pieces of 128 reads the piece that the position lies in. -/
theorem ladder128 {α : Type} (f : Fin 4 → Fin 128 → α) (k : Fin 512) :
    (if h0 : k.val < 128 then f 0 ⟨k.val, h0⟩ else if h1 : k.val - 128 < 128 then f 1 ⟨k.val - 128, h1⟩
      else if h2 : k.val - 128 - 128 < 128 then f 2 ⟨k.val - 128 - 128, h2⟩ else f 3 ⟨k.val - 128 - 128 - 128, by omega⟩)
    = f ⟨k.val / 128, by omega⟩ ⟨k.val % 128, by omega⟩ := by
  split_ifs <;> exact congrArg₂ f (Fin.ext (by simp only [Fin.isValue, Fin.val_zero, Fin.val_one, Fin.val_two, Fin.reduceFinMk]; omega)) (Fin.ext (by simp only []; omega))

/-- A ladder of tests over four pieces of 64 reads the piece that the position lies in. -/
theorem ladder64 {α : Type} (f : Fin 4 → Fin 64 → α) (k : Fin 256) :
    (if h0 : k.val < 64 then f 0 ⟨k.val, h0⟩ else if h1 : k.val - 64 < 64 then f 1 ⟨k.val - 64, h1⟩
      else if h2 : k.val - 64 - 64 < 64 then f 2 ⟨k.val - 64 - 64, h2⟩ else f 3 ⟨k.val - 64 - 64 - 64, by omega⟩)
    = f ⟨k.val / 64, by omega⟩ ⟨k.val % 64, by omega⟩ := by
  split_ifs <;> exact congrArg₂ f (Fin.ext (by simp only [Fin.isValue, Fin.val_zero, Fin.val_one, Fin.val_two, Fin.reduceFinMk]; omega)) (Fin.ext (by simp only []; omega))

/-! ## The order of the slots -/

/-- Device `c`'s slots hold the key blocks in the order `c`, `c - 1`, `c - 2`, `c - 3` around the ring: the key that stands at
    position `k` of the four slots is key `128 (c + 4 - k / 128 mod 4) + k mod 128` of the whole sequence. -/
def turn (c : Fin 4) (k : Fin 512) : Fin 512 := ⟨128 * ((c.val + (4 - k.val / 128)) % 4) + k.val % 128, by omega⟩

/-- Turning twice is turning back. -/
theorem turn_turn (c : Fin 4) (k : Fin 512) : turn c (turn c k) = k := Fin.ext (by simp only [turn]; omega)

/-- The slots' order as a permutation of the keys. -/
def slots (c : Fin 4) : Fin 512 ≃ Fin 512 := ⟨turn c, turn c, turn_turn c, turn_turn c⟩

end Cert.Attention

end
-- ==== Proof.SlotValues.lean ====
/-
What a device writes, at an index, over the extended reals, in terms of its inputs and of what its four slots hold.
-/
module

public import proofs.«01_k».proof.Proof.Result
public import proofs.«01_k».proof.Proof.Attention

@[expose] public section

set_option maxRecDepth 16384

noncomputable section

namespace Cert.Exchange

open Cert.KernelIdeal Cert.KernelIdeal.Gen Cert.Attention
open Idealize.ShloMosaic

/-! ## The mask -/

/-- The number of the first block of the keys in slot `r`. -/
theorem firstBlock_eq (c : Dev nD) (r : Fin 4) : firstBlock (place c) r = BitVec.ofNat 32 (2 * ((c.val + (4 - r.val)) % 4)) := by
  revert c r; decide +kernel

/-- A device's place as a word. -/
theorem place_eq (c : Dev nD) : place c = BitVec.ofNat 32 c.val := by revert c; decide +kernel

/-- The block number of a device's query. -/
theorem rowBlock_at (c : Dev nD) (i j : Fin 128) : k0_pay3 (place c) (ix2 i j) = BitVec.ofNat 32 (2 * c.val + i.val / 64) := by
  rw [place_eq]
  pointwise [k0_pay3]
  clear j
  revert c i
  decide +kernel

/-- The block number of a key within its slot. -/
theorem colBlock_at (i j : Fin 128) : k0_pay7 colIds (ix2 i j) = BitVec.ofNat 32 (j.val / 64) := by
  pointwise [k0_pay7, colIds]
  clear i
  revert j
  decide +kernel

set_option maxHeartbeats 1000000 in
/-- The mask of a slot, by the block numbers of query and key among all rows. -/
theorem maskOf_at (c : Dev nD) (r : Fin 4) (i t : Fin 128) :
    maskOf (place c) r (ix2 i t) = allowed (2 * c.val + i.val / 64) (2 * ((c.val + (4 - r.val)) % 4) + t.val / 64) := by
  pointwise [maskOf, k0_pay9]
  rw [rowBlock_at, colBlock_at, firstBlock_eq]
  obtain ⟨a, ha⟩ : ∃ a : Fin 2, i.val / 64 = a.val := ⟨⟨i.val / 64, by omega⟩, rfl⟩
  obtain ⟨b, hb⟩ : ∃ b : Fin 2, t.val / 64 = b.val := ⟨⟨t.val / 64, by omega⟩, rfl⟩
  rw [ha, hb]
  clear ha hb i t
  revert c r a b
  decide +kernel

/-! ## One head -/

/-- The projection of a query. -/
theorem queriesOf_at (x : Vec Ideal S1x128x512 .f32) (wq : Vec Ideal S512x256 .f32) (i : Fin 128) (z : Fin 256) :
    queriesOf (F := Ideal) x wq (ix2 i z) = ∑ e : Fin 512, x (ix3 0 i e) * wq (ix2 e z) := by
  pointwise [queriesOf]

/-- A masked score of one head. -/
theorem scoreOf_at (M : IVec S128x128 1) (h : Fin 4) (Q : FVec Ideal S128x256 .bf16) (K : Vec Ideal S1x1x1x128x256 .bf16) (i t : Fin 128) :
    scoreOf (F := Ideal) M h Q K (ix2 i t) = score (M (ix2 i t)) (∑ d : Fin 64, (show EReal from Q (ix2 i ⟨64 * h.val + d.val, by omega⟩))
      * (show EReal from K (ix5 0 0 0 t ⟨64 * h.val + d.val, by omega⟩))) := by
  pointwise [scoreOf, headOf, rowsOf]
  rfl

/-- The exponentials of a row's scores. -/
theorem expOf_at (S : FVec Ideal S128x512 .f32) (i : Fin 128) (k : Fin 512) :
    expOf (F := Ideal) S (ix2 i k) = shifted (fun j => S (ix2 i j)) k := by
  pointwise [expOf]
  rfl

/-- Each exponential divided by its row's sum. -/
theorem weightsOf_at (E : FVec Ideal S128x512 .f32) (i : Fin 128) (k : Fin 512) :
    weightsOf (F := Ideal) E (ix2 i k) = Ideal.div (E (ix2 i k)) (∑ j : Fin 512, E (ix2 i j)) := by
  pointwise [weightsOf]

/-- The four slots' scores side by side. -/
theorem sideBySide_at (S : Fin 4 → FVec Ideal S128x128 .f32) (i : Fin 128) (k : Fin 512) :
    sideBySide (F := Ideal) S (ix2 i k) = S ⟨k.val / 128, by omega⟩ (ix2 i ⟨k.val % 128, by omega⟩) := by
  pointwise [sideBySide]
  exact ladder128 (fun r t => S r (ix2 i t)) k

/-- One head's values of the four slots, one slot below the other. -/
theorem stacked_at (h : Fin 4) (V : Fin 4 → Vec Ideal S1x1x1x128x256 .bf16) (k : Fin 512) (d : Fin 64) :
    stacked (F := Ideal) h V (ix2 k d) = V ⟨k.val / 128, by omega⟩ (ix5 0 0 0 ⟨k.val % 128, by omega⟩ ⟨64 * h.val + d.val, by omega⟩) := by
  pointwise [stacked, headOf, rowsOf]
  exact ladder128 (fun r t => V r (ix5 0 0 0 t ⟨64 * h.val + d.val, by omega⟩)) k

/-- One head's attention over the four slots. -/
theorem attendOf_at (v : BitVec 32) (Q : FVec Ideal S128x256 .bf16) (K V : Fin 4 → Vec Ideal S1x1x1x128x256 .bf16) (h : Fin 4)
    (i : Fin 128) (d : Fin 64) :
    attendOf (F := Ideal) v Q K V h (ix2 i d)
      = attend (fun k : Fin 512 => scoreOf (F := Ideal) (maskOf v ⟨k.val / 128, by omega⟩) h Q (K ⟨k.val / 128, by omega⟩) (ix2 i ⟨k.val % 128, by omega⟩))
          (fun k : Fin 512 => V ⟨k.val / 128, by omega⟩ (ix5 0 0 0 ⟨k.val % 128, by omega⟩ ⟨64 * h.val + d.val, by omega⟩)) := by
  pointwise [attendOf]
  unfold attend
  refine Finset.sum_congr rfl fun k _ => ?_
  rw [weightsOf_at, stacked_at]
  simp only [expOf_at, sideBySide_at]

/-- The heads side by side, projected. -/
theorem projectOf_at (A : Fin 4 → FVec Ideal S128x64 .f32) (wo : Vec Ideal S256x512 .f32) (i : Fin 128) (o : Fin 512) :
    projectOf (F := Ideal) A wo (ix3 0 i o)
      = ∑ z : Fin 256, (show EReal from A ⟨z.val / 64, by omega⟩ (ix2 i ⟨z.val % 64, by omega⟩)) * (show EReal from wo (ix2 z o)) := by
  pointwise [projectOf]
  refine Finset.sum_congr rfl fun z _ => ?_
  rw [ladder64 (fun h d => A h (ix2 i d)) z]

end Cert.Exchange

end
-- ==== Proof.Whole.lean ====
/-
The reference's result as a tower of named stages: block numbers, mask, scores, exponentials, weights, attention, projection.
-/
module

public import proofs.«01_k».proof.Proof.Gen.ReferenceIdeal.Run

@[expose] public section

noncomputable section

namespace Cert.Whole

open Cert.ReferenceIdeal Cert.ReferenceIdeal.Gen
open Idealize.ShloMosaic Idealize.ShloMosaic.TcCoe

variable {F : FTy → Type} [FloatOps F]

/-! ## The mask -/

/-- The number of the block of 64 a position lies in: the floor of its quotient by 64. -/
def blockIds : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The block numbers down the rows. -/
def rowBlocks : IVec S512x512 32 :=
  broadcastInDim S512x512 ![0, 1] bcast_S512x1_S512x512_0_1 (broadcastInDim S512x1 ![0] bcast_S512_S512x1_0 blockIds)

/-- The block numbers along the columns, as one row. -/
def colRow : IVec S1x512 32 := broadcastInDim S1x512 ![1] bcast_S512_S1x512_1 blockIds

/-- The block numbers along the columns. -/
def colBlocks : IVec S512x512 32 := broadcastInDim S512x512 ![0, 1] bcast_S1x512_S512x512_0_1 colRow

/-- Three, as the remainder's divisor is computed. -/
def three : IVec S_ 32 :=
  select (cmpi .eq (id (constantI S_ 32 3#32)) (constantI S_ 32 0#32)) (constantI S_ 32 1#32) (id (constantI S_ 32 3#32))

/-- The remainder of the two block numbers' sum by three, with the dividend's sign. -/
def rawRem : IVec S512x512 32 := Host.remsi (addi rowBlocks colBlocks) (broadcastInDim S512x512 ![] bcast_S_S512x512 three)

/-- The remainder of the two block numbers' sum by three, with the divisor's sign. -/
def sumRem : IVec S512x512 32 :=
  select (andi (cmpi .ne (cmpi .slt rawRem (broadcastInDim S512x512 ![] bcast_S_S512x512 (constantI S_ 32 0#32)))
        (broadcastInDim S512x512 ![] bcast_S_S512x512 (cmpi .slt three (constantI S_ 32 0#32))))
      (cmpi .ne rawRem (broadcastInDim S512x512 ![] bcast_S_S512x512 (constantI S_ 32 0#32))))
    (addi rawRem (broadcastInDim S512x512 ![] bcast_S_S512x512 three)) rawRem

/-- Which keys each query may look at. -/
def mask : IVec S512x512 1 :=
  ori (ori (cmpi .eq rowBlocks colBlocks)
      (broadcastInDim S512x512 ![0, 1] bcast_S1x512_S512x512_0_1 (cmpi .eq colRow (broadcastInDim S1x512 ![] bcast_S_S1x512 (constantI S_ 32 0#32)))))
    (cmpi .eq sumRem (broadcastInDim S512x512 ![] bcast_S_S512x512 (constantI S_ 32 0#32)))

/-- Which queries may look at any key. -/
def keeps : IVec S1x1x512x1 1 :=
  broadcastInDim S1x1x512x1 ![2] bcast_S512_S1x1x512x1_2 (Host.reduce IntOp.ori mask (constantI S_ 1 0#1) reducesTo_S512x512_S512_d1 h_S_)

/-! ## The attention -/

/-- The projected queries, head by head. -/
def queries (x : FVec F S2x512x512 .f32) (wq : FVec F S512x256 .f32) : FVec F S2x512x4x64 .f32 :=
  shapeCast S2x512x4x64 (Host.dotGeneral dot_S2x512x512_S512x256_S2x512x256_2_0_01_1_n_n none x wq) shapeCasts_S2x512x256_S2x512x4x64

/-- The masked scores. -/
def scores (q k : FVec F S2x512x4x64 .f32) : FVec F S2x4x512x512 .f32 :=
  select (broadcastInDim S2x4x512x512 ![0, 1, 2, 3] bcast_S1x1x512x512_S2x4x512x512_0_1_2_3
      (broadcastInDim S1x1x512x512 ![2, 3] bcast_S512x512_S1x1x512x512_2_3 mask))
    (mulf (Host.dotGeneral dot_S2x512x4x64_S2x512x4x64_S2x4x512x512_3_3_1_1_02_02 none q k)
      (broadcastInDim S2x4x512x512 ![] bcast_S_S2x4x512x512 (constant S_ .f32 0x3E000000#32)))
    (broadcastInDim S2x4x512x512 ![] bcast_S_S2x4x512x512 (id (constant S_ .f32 0xCE6E6B28#32)))

/-- The exponentials of the scores, each row shifted by its maximum. -/
def exps (s : FVec F S2x4x512x512 .f32) : FVec F S2x4x512x512 .f32 :=
  Host.exp (subf s (broadcastInDim S2x4x512x512 ![0, 1, 2, 3] bcast_S2x4x512x1_S2x4x512x512_0_1_2_3
    (broadcastInDim S2x4x512x1 ![0, 1, 2] bcast_S2x4x512_S2x4x512x1_0_1_2
      (Host.reduce FloatOps.maximumf s (constant S_ .f32 0xFF800000#32) reducesTo_S2x4x512x512_S2x4x512_d3 h_S_))))

/-- The exponentials' row sums, one for a query that may look at nothing. -/
def sums (e : FVec F S2x4x512x512 .f32) : FVec F S2x4x512x1 .f32 :=
  select (broadcastInDim S2x4x512x1 ![0, 1, 2, 3] bcast_S1x1x512x1_S2x4x512x1_0_1_2_3 keeps)
    (broadcastInDim S2x4x512x1 ![0, 1, 2] bcast_S2x4x512_S2x4x512x1_0_1_2
      (Host.reduceAdd e (constant S_ .f32 0x00000000#32) reducesTo_S2x4x512x512_S2x4x512_d3 h_S_))
    (broadcastInDim S2x4x512x1 ![] bcast_S_S2x4x512x1 (id (constant S_ .f32 0x3F800000#32)))

/-- The weights. -/
def weights (e : FVec F S2x4x512x512 .f32) : FVec F S2x4x512x512 .f32 :=
  select (broadcastInDim S2x4x512x512 ![0, 1, 2, 3] bcast_S1x1x512x1_S2x4x512x512_0_1_2_3 keeps)
    (Host.divf e (broadcastInDim S2x4x512x512 ![0, 1, 2, 3] bcast_S2x4x512x1_S2x4x512x512_0_1_2_3 (sums e)))
    (broadcastInDim S2x4x512x512 ![] bcast_S_S2x4x512x512 (id (constant S_ .f32 0x00000000#32)))

/-- The weighted sums of the values, the heads side by side. -/
def attended (w : FVec F S2x4x512x512 .f32) (v : FVec F S2x512x4x64 .f32) : FVec F S2x512x256 .f32 :=
  shapeCast S2x512x256 (transpose S2x512x4x64 [0, 3, 1, 2] (Host.dotGeneral dot_S2x512x4x64_S2x4x512x512_S2x4x64x512_1_3_3_2_02_01 none v w)
    transposes_S2x4x64x512_S2x512x4x64_0_3_1_2) shapeCasts_S2x512x4x64_S2x512x256

/-- The result. -/
def result (x : FVec F S2x512x512 .f32) (wq : FVec F S512x256 .f32) (k v : FVec F S2x512x4x64 .f32) (wo : FVec F S256x512 .f32) :
    FVec F S2x512x512 .f32 :=
  Host.dotGeneral dot_S2x512x256_S256x512_S2x512x512_2_0_01_1_n_n none (attended (weights (exps (scores (queries x wq) k))) v) wo

set_option maxRecDepth 16384 in
set_option maxHeartbeats 4000000 in
/-- What the reference leaves is the tower's top. -/
theorem result_eq (m : (ℓ : Loc nD τ sig) → Buf (Elt F) ℓ) (c : Dev nD) :
    Value.res_main_v44 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44 result attended weights sums exps scores queries keeps mask sumRem rawRem three colBlocks colRow rowBlocks blockIds
  rfl

end Cert.Whole

end
-- ==== Proof.WholeValues.lean ====
/-
The reference's result at an index, over the extended reals.
-/
module

public import proofs.«01_k».proof.Proof.Whole
public import proofs.«01_k».proof.Proof.Attention

@[expose] public section

set_option maxRecDepth 16384

noncomputable section

namespace Cert.Whole

open Cert.ReferenceIdeal Cert.ReferenceIdeal.Gen Cert.Attention
open Idealize.ShloMosaic

/-! ## The mask -/

/-- The block number of a row. -/
theorem blockIds_at (i : Fin 512) : blockIds (ix1 i) = BitVec.ofNat 32 (i.val / 64) := by
  pointwise [blockIds]
  revert i
  decide +kernel

set_option maxHeartbeats 1000000 in
/-- The reference's mask by block numbers. -/
theorem mask_at (i j : Fin 512) : mask (ix2 i j) = allowed (i.val / 64) (j.val / 64) := by
  pointwise [mask, sumRem, rawRem, three, colBlocks, colRow, rowBlocks]
  rw [blockIds_at, blockIds_at]
  obtain ⟨a, ha⟩ : ∃ a : Fin 8, i.val / 64 = a.val := ⟨⟨i.val / 64, by omega⟩, rfl⟩
  obtain ⟨b, hb⟩ : ∃ b : Fin 8, j.val / 64 = b.val := ⟨⟨j.val / 64, by omega⟩, rfl⟩
  rw [ha, hb]
  clear ha hb i j
  revert a b
  decide +kernel

/-- Every query may look at some key. -/
theorem keeps_at (i : Fin 512) : keeps (ix4 0 0 i 0) = 1#1 := by
  pointwise [keeps]
  refine or_all _ 0 ?_
  rw [mask_at]
  exact allowed_first _

/-! ## The attention -/

/-- The projected query `i` of entry `b` at a column of the projection. -/
def query (x : FVec Ideal S2x512x512 .f32) (wq : FVec Ideal S512x256 .f32) (b : Fin 2) (i : Fin 512) (z : Fin 256) : EReal :=
  ∑ e : Fin 512, x (ix3 b i e) * wq (ix2 e z)

/-- The score of query `i` against key `j` in head `h`. -/
def scoreRow (x : FVec Ideal S2x512x512 .f32) (wq : FVec Ideal S512x256 .f32) (k : FVec Ideal S2x512x4x64 .f32)
    (b : Fin 2) (h : Fin 4) (i : Fin 512) (j : Fin 512) : EReal :=
  score (allowed (i.val / 64) (j.val / 64)) (∑ d : Fin 64, query x wq b i ⟨64 * h.val + d.val, by omega⟩ * k (ix4 b j h d))

/-- The reference's projected queries, head by head. -/
theorem queries_at (x : FVec Ideal S2x512x512 .f32) (wq : FVec Ideal S512x256 .f32) (b : Fin 2) (i : Fin 512) (h : Fin 4) (d : Fin 64) :
    queries x wq (ix4 b i h d) = query x wq b i ⟨64 * h.val + d.val, by omega⟩ := by
  pointwise [queries]
  unfold query
  exact Finset.sum_congr rfl fun e _ => congrArg (fun y : Fin 256 => x (ix3 b i e) * wq (ix2 e y))
    (Fin.ext (show h.val * 64 + d.val = 64 * h.val + d.val by omega))

/-- The reference's masked scores. -/
theorem scores_at (x : FVec Ideal S2x512x512 .f32) (wq : FVec Ideal S512x256 .f32) (k : FVec Ideal S2x512x4x64 .f32)
    (b : Fin 2) (h : Fin 4) (i j : Fin 512) : scores (queries x wq) k (ix4 b h i j) = scoreRow x wq k b h i j := by
  pointwise [scores]
  simp only [mask_at, queries_at]
  rfl

/-- The reference's weights; no row is without a key. -/
theorem weights_at (s : FVec Ideal S2x4x512x512 .f32) (b : Fin 2) (h : Fin 4) (i j : Fin 512) :
    weights s (ix4 b h i j) = Ideal.div (s (ix4 b h i j)) (∑ k : Fin 512, s (ix4 b h i k)) := by
  pointwise [weights, sums]
  rw [keeps_at]
  rfl

/-- The reference's exponentials. -/
theorem exps_at (s : FVec Ideal S2x4x512x512 .f32) (b : Fin 2) (h : Fin 4) (i j : Fin 512) :
    exps s (ix4 b h i j) = shifted (fun k => s (ix4 b h i k)) j := by
  pointwise [exps]
  rfl

/-- The reference's attention, the heads side by side. -/
theorem attended_at (s : FVec Ideal S2x4x512x512 .f32) (v : FVec Ideal S2x512x4x64 .f32) (b : Fin 2) (i : Fin 512) (z : Fin 256) :
    attended (weights (exps s)) v (ix3 b i z)
      = attend (fun j => s (ix4 b ⟨z.val / 64, by omega⟩ i j)) (fun j => v (ix4 b j ⟨z.val / 64, by omega⟩ ⟨z.val % 64, by omega⟩)) := by
  pointwise [attended]
  unfold attend
  refine Finset.sum_congr rfl fun j _ => ?_
  rw [mul_comm, weights_at]
  simp only [exps_at]

/-- The reference's result, element by element: each head of each query attends over all keys, and the heads side by side are
    projected. -/
theorem result_at (x : FVec Ideal S2x512x512 .f32) (wq : FVec Ideal S512x256 .f32) (k v : FVec Ideal S2x512x4x64 .f32)
    (wo : FVec Ideal S256x512 .f32) (b : Fin 2) (i o : Fin 512) :
    result x wq k v wo (ix3 b i o) = ∑ z : Fin 256,
      attend (scoreRow x wq k b ⟨z.val / 64, by omega⟩ i) (fun j => v (ix4 b j ⟨z.val / 64, by omega⟩ ⟨z.val % 64, by omega⟩)) * wo (ix2 z o) := by
  pointwise [result]
  refine Finset.sum_congr rfl fun z _ => ?_
  rw [attended_at]
  simp only [scores_at]

end Cert.Whole

end
-- ==== Proof.Agree.lean ====
/-
What each device writes is its rows of the reference's result.
-/
module

public import proofs.«01_k».proof.Proof.FinalArray
public import proofs.«01_k».proof.Proof.SlotValues
public import proofs.«01_k».proof.Proof.WholeValues

@[expose] public section

set_option maxRecDepth 16384

noncomputable section

namespace Cert.Exchange

open Cert.KernelIdeal Cert.KernelIdeal.Gen Cert.Attention
open Idealize.ShloMosaic Idealize.ShloMosaic.TcCoe

variable (m : (ℓ : Loc nD τ sig) → Buf (Elt Ideal) ℓ)

/-- Position `i` of device `c`'s rows among all rows. -/
abbrev place128 (c : Fin 4) (i : Fin 128) : Fin 512 := ⟨128 * c.val + i.val, by omega⟩

/-- Device `c`'s arrays are its blocks of, or copies of, the whole arrays. -/
structure Shards (x : FVec Ideal ⟨3, ![2, 512, 512]⟩ .f32) (wq : FVec Ideal ⟨2, ![512, 256]⟩ .f32) (k v : FVec Ideal ⟨4, ![2, 512, 4, 64]⟩ .f32)
    (wo : FVec Ideal ⟨2, ![256, 512]⟩ .f32) : Prop where
  x (c : Dev nD) (b : Fin 2) (i : Fin 128) (e : Fin 512) : xstg m c (ix3 b i e) = x (ix3 b (place128 c i) e)
  wq (c : Dev nD) (e : Fin 512) (z : Fin 256) : qstg m c (ix2 e z) = wq (ix2 e z)
  k (c : Dev nD) (b : Fin 2) (i : Fin 128) (h : Fin 4) (d : Fin 64) : kstg m c (ix4 b i h d) = k (ix4 b (place128 c i) h d)
  v (c : Dev nD) (b : Fin 2) (i : Fin 128) (h : Fin 4) (d : Fin 64) : vstg m c (ix4 b i h d) = v (ix4 b (place128 c i) h d)
  wo (c : Dev nD) (z : Fin 256) (o : Fin 512) : ostg m c (ix2 z o) = wo (ix2 z o)

/-- What a device puts into its own slot for the keys, and likewise for the values: each head's columns side by side. -/
theorem pay1_at (X : Vec Ideal S2x128x4x64 .f32) (b : Fin 2) (t : Fin 128) (h : Fin 4) (d : Fin 64) :
    k0_pay1 (F := Ideal) X (ix5 0 0 b t ⟨64 * h.val + d.val, by omega⟩) = X (ix4 b t h d) := by
  pointwise [k0_pay1]
theorem pay2_at (X : Vec Ideal S2x128x4x64 .f32) (b : Fin 2) (t : Fin 128) (h : Fin 4) (d : Fin 64) :
    k0_pay2 (F := Ideal) X (ix5 0 0 b t ⟨64 * h.val + d.val, by omega⟩) = X (ix4 b t h d) := by
  pointwise [k0_pay2]

section
variable {x : FVec Ideal ⟨3, ![2, 512, 512]⟩ .f32} {wq : FVec Ideal ⟨2, ![512, 256]⟩ .f32} {k v : FVec Ideal ⟨4, ![2, 512, 4, 64]⟩ .f32}
  {wo : FVec Ideal ⟨2, ![256, 512]⟩ .f32} (S : Shards m x wq k v wo)
include S

/-- The keys in the slots: at position `j` of the four slots, the key that the slots' order puts there. -/
theorem keys_at (c : Dev nD) (b : Fin 2) (j : Fin 512) (h : Fin 4) (d : Fin 64) :
    slotRow m c 0 b ⟨j.val / 128, by omega⟩ (ix5 0 0 0 ⟨j.val % 128, by omega⟩ ⟨64 * h.val + d.val, by omega⟩)
      = k (ix4 b (slots c j) h d) :=
  (pay1_at _ b _ h d).trans (S.k _ b _ h d)
/-- The values in the slots, likewise. -/
theorem values_at (c : Dev nD) (b : Fin 2) (j : Fin 512) (h : Fin 4) (d : Fin 64) :
    slotRow m c 1 b ⟨j.val / 128, by omega⟩ (ix5 0 0 0 ⟨j.val % 128, by omega⟩ ⟨64 * h.val + d.val, by omega⟩)
      = v (ix4 b (slots c j) h d) :=
  (pay2_at _ b _ h d).trans (S.v _ b _ h d)

/-- A device's projected queries are the reference's at its rows. -/
theorem query_at (c : Dev nD) (b : Fin 2) (i : Fin 128) (z : Fin 256) :
    queriesOf (F := Ideal) (entry (xstg m c) b) (qstg m c) (ix2 i z) = Cert.Whole.query x wq b (place128 c i) z := by
  rw [queriesOf_at]
  refine Finset.sum_congr rfl fun e _ => ?_
  rw [S.wq]
  exact congrArg (fun y : EReal => y * wq (ix2 e z)) (S.x c b i e)

/-- A device's scores of one query, slot by slot, are the reference's in the slots' order. -/
theorem score_at (c : Dev nD) (b : Fin 2) (h : Fin 4) (i : Fin 128) (j : Fin 512) :
    scoreOf (F := Ideal) (maskOf (place c) ⟨j.val / 128, by omega⟩) h (queriesOf (entry (xstg m c) b) (qstg m c))
        (slotRow m c 0 b ⟨j.val / 128, by omega⟩) (ix2 i ⟨j.val % 128, by omega⟩)
      = Cert.Whole.scoreRow x wq k b h (place128 c i) (slots c j) := by
  rw [scoreOf_at, maskOf_at]
  unfold Cert.Whole.scoreRow
  refine congrArg₂ score (congrArg₂ allowed ?_ ?_) (Finset.sum_congr rfl fun d _ => ?_)
  · show 2 * c.val + i.val / 64 = (128 * c.val + i.val) / 64
    omega
  · show 2 * ((c.val + (4 - j.val / 128)) % 4) + j.val % 128 / 64 = (128 * ((c.val + (4 - j.val / 128)) % 4) + j.val % 128) / 64
    omega
  · exact congrArg₂ (fun a b : EReal => a * b) (query_at m S c b i _) (keys_at m S c b j h d)

/-- Each head of each query attends as the reference's does. -/
theorem attend_at (c : Dev nD) (b : Fin 2) (h : Fin 4) (i : Fin 128) (d : Fin 64) :
    attendOf (F := Ideal) (place c) (queriesOf (entry (xstg m c) b) (qstg m c)) (slotRow m c 0 b) (slotRow m c 1 b) h (ix2 i d)
      = attend (Cert.Whole.scoreRow x wq k b h (place128 c i)) (fun j => v (ix4 b j h d)) := by
  rw [attendOf_at, ← attend_perm (slots c) (Cert.Whole.scoreRow x wq k b h (place128 c i))]
  exact congrArg₂ attend (funext fun j => score_at m S c b h i j) (funext fun j => values_at m S c b j h d)

/-- Each device writes its rows of the reference's result. -/
theorem out_at (c : Dev nD) (b : Fin 2) (i : Fin 128) (o : Fin 512) :
    outAt m c (ix3 b i o) = Cert.Whole.result x wq k v wo (ix3 b (place128 c i) o) := by
  rw [Cert.Whole.result_at]
  refine (projectOf_at _ (ostg m c) i o).trans (Finset.sum_congr rfl fun z _ => ?_)
  exact congrArg₂ (fun a b : EReal => a * b) (attend_at m S c b _ i _) (S.wo c z o)

end

end Cert.Exchange

end
-- ==== Proof.Claims.lean ====
/-
The value claim: over the extended reals the mesh of four devices leaves, device by device, the rows of the reference's result;
and the reference's own frame.
-/
module

public import proofs.«01_k».proof.Proof.Frames
public import proofs.«01_k».proof.Proof.Agree
public import Idealize.ShloMosaic.Lib.Claim
public import Idealize.ShloMosaic.Lib.LayoutAt

@[expose] public section

set_option maxRecDepth 16384

noncomputable section

namespace Cert.Exchange

open Idealize.ShloMosaic Idealize.ShloMosaic.TcCoe Idealize.SL.Sem

/-- The reference terminates with its arguments unchanged; it has no semaphores. -/
theorem frame_reference : quiescent_ReferenceIdeal (hReferenceIdeal := Cert.ReferenceIdeal.Gen.facts) := by
  intro m g _
  exact θ_run_mono (Cert.ReferenceIdeal.Value.run m g)
    fun r hr => ⟨fun c => (hr c).2, sem_eq_zero_of_no_sems (by decide) r.2⟩

open Cert.KernelIdeal in
/-- Arrays cut along the rows, and arrays copied, are shards of the whole arrays. -/
theorem shards_of (m : (ℓ : Loc nD τ sig) → Buf (Elt Ideal) ℓ)
    (x : FVec Ideal ⟨3, ![2, 512, 512]⟩ .f32) (wq : FVec Ideal ⟨2, ![512, 256]⟩ .f32) (k v : FVec Ideal ⟨4, ![2, 512, 4, 64]⟩ .f32)
    (wo : FVec Ideal ⟨2, ![256, 512]⟩ .f32)
    (h : ∀ c : Dev nD, m ((c.tc : Thread nD τ).loc main_arg0) = Layout.block ⟨3, ![2, 128, 512]⟩ ⟨3, ![2, 512, 512]⟩ 1 4 c x
      ∧ m ((c.tc : Thread nD τ).loc main_arg1) = wq
      ∧ m ((c.tc : Thread nD τ).loc main_arg2) = Layout.block ⟨4, ![2, 128, 4, 64]⟩ ⟨4, ![2, 512, 4, 64]⟩ 1 4 c k
      ∧ m ((c.tc : Thread nD τ).loc main_arg3) = Layout.block ⟨4, ![2, 128, 4, 64]⟩ ⟨4, ![2, 512, 4, 64]⟩ 1 4 c v
      ∧ m ((c.tc : Thread nD τ).loc main_arg4) = wo) :
    Shards m x wq k v wo where
  x c b i e := by
    rw [xstg_at, (h c).1]
    shard_ext
  wq c e z := by rw [qstg_at, (h c).2.1]
  k c b i h' d := by
    rw [kstg_at, (h c).2.2.1]
    shard_ext
  v c b i h' d := by
    rw [vstg_at, (h c).2.2.2.1]
    shard_ext
  wo c z o := by rw [ostg_at, (h c).2.2.2.2]

/-- Over the extended reals the four devices end with the four row blocks of the reference's result. -/
theorem algebraic : algebraic_KernelIdeal_ReferenceIdeal (hKernelIdeal := Cert.KernelIdeal.Gen.facts)
    (hReferenceIdeal := Cert.ReferenceIdeal.Gen.facts) := by
  intro m g m' g' _ hagree
  refine ⟨Cert.ReferenceIdeal.Value.res_main_v44 m' 0, ?_, ?_⟩
  · refine θ_run_mono (run_named (F := Ideal) m g) fun r hr c => ?_
    obtain ⟨h0, h1, h2, h3, h4, hout⟩ := hr.1 c
    refine ⟨hout.trans (funext fun y => ?_), h0, h1, h2, h3, h4⟩
    obtain ⟨b, i, o, rfl⟩ : ∃ b i o, y = ix3 b i o := ⟨y 0, y 1, y 2, eq_ix3 y⟩
    rw [finalA_out, out_at m (shards_of m _ _ _ _ _ hagree) c b i o, Cert.Whole.result_eq m' 0]
    shard_ext
  · exact θ_run_mono (Cert.ReferenceIdeal.Value.run m' g') fun r hr => hr 0

end Cert.Exchange

end
-- ==== Proof.lean ====
/- The five claims about the attention kernel on a ring of four devices, put together. -/
module

public import proofs.«01_k».proof.Defs
public import proofs.«01_k».proof.Proof.Claims

@[expose] public section

noncomputable section

namespace Cert.Proof

/-- Kernel, ideal kernel and reference terminate with arguments unchanged and counters at zero; the ideal kernel is the kernel
over the extended reals; and it leaves on each device that device's rows of the reference's result. -/
theorem claim : Cert.Claim :=
  ⟨Cert.Kernel.Gen.facts, Cert.KernelIdeal.Gen.facts, Cert.ReferenceIdeal.Gen.facts,
    Cert.Exchange.frame_kernel, Cert.Exchange.frame_kernelIdeal, Cert.Exchange.frame_reference, trivial, Cert.Exchange.algebraic⟩

end Cert.Proof

end
